-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v1_0)) (v2 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_v3) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_v44) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1024x2048 : Shape := ⟨2, ![1024, 2048]⟩
abbrev S2048x32768 : Shape := ⟨2, ![2048, 32768]⟩
abbrev S32768 : Shape := ⟨1, ![32768]⟩
abbrev S_ : Shape := ⟨0, ![]⟩

class Facts : Prop where
  bcast_S_S1024x2048 : S_.BroadcastsInDim S1024x2048 (![] : Fin 0 → Fin S1024x2048.rank)
  reducesTo_S1024x2048_S_d0_1 : S1024x2048.ReducesTo [0, 1] S_
  h_S_ : 0 < S_.numel
  bcast_S_S2048x32768 : S_.BroadcastsInDim S2048x32768 (![] : Fin 0 → Fin S2048x32768.rank)
  reducesTo_S2048x32768_S_d0_1 : S2048x32768.ReducesTo [0, 1] S_
  bcast_S_S32768 : S_.BroadcastsInDim S32768 (![] : Fin 0 → Fin S32768.rank)
  reducesTo_S32768_S_d0 : S32768.ReducesTo [0] S_

variable [Facts]

def fn {F : FTy → Type} [FloatOps F] (main_arg0 : FVec F S1024x2048 .f32) (main_arg1 : FVec F S2048x32768 .f32) (main_arg2 : FVec F S32768 .f32) : IVec S_ 1 :=
  let main_v0 : FVec F S1024x2048 .f32 := Host.absf main_arg0
  let main_cst : FVec F S_ .f32 := constant S_ .f32 0x7F800000#32
  let main_v1 : FVec F S1024x2048 .f32 := broadcastInDim S1024x2048 ![] bcast_S_S1024x2048 main_cst
  let main_v2 : IVec S1024x2048 1 := cmpf .olt main_v0 main_v1
  let main_c : IVec S_ 1 := constantI S_ 1 1#1
  let main_v3 : IVec S_ 1 := (fun x v => Host.reduce IntOp.andi x v reducesTo_S1024x2048_S_d0_1 h_S_) main_v2 main_c
  let main_v4 : FVec F S2048x32768 .f32 := Host.absf main_arg1
  let main_cst_0 : FVec F S_ .f32 := constant S_ .f32 0x7F800000#32
  let main_v5 : FVec F S2048x32768 .f32 := broadcastInDim S2048x32768 ![] bcast_S_S2048x32768 main_cst_0
  let main_v6 : IVec S2048x32768 1 := cmpf .olt main_v4 main_v5
  let main_c_1 : IVec S_ 1 := constantI S_ 1 1#1
  let main_v7 : IVec S_ 1 := (fun x v => Host.reduce IntOp.andi x v reducesTo_S2048x32768_S_d0_1 h_S_) main_v6 main_c_1
  let main_v8 : IVec S_ 1 := andi main_v3 main_v7
  let main_v9 : FVec F S32768 .f32 := Host.absf main_arg2
  let main_cst_2 : FVec F S_ .f32 := constant S_ .f32 0x7F800000#32
  let main_v10 : FVec F S32768 .f32 := broadcastInDim S32768 ![] bcast_S_S32768 main_cst_2
  let main_v11 : IVec S32768 1 := cmpf .olt main_v9 main_v10
  let main_c_3 : IVec S_ 1 := constantI S_ 1 1#1
  let main_v12 : IVec S_ 1 := (fun x v => Host.reduce IntOp.andi x v reducesTo_S32768_S_d0 h_S_) main_v11 main_c_3
  let main_v13 : IVec S_ 1 := andi main_v8 main_v12
  main_v13
-- ==== Kernel.lean ====
abbrev S1024x2048 : Shape := ⟨2, ![1024, 2048]⟩
abbrev S2048x32768 : Shape := ⟨2, ![2048, 32768]⟩
abbrev S32768 : Shape := ⟨1, ![32768]⟩
abbrev S1x32768 : Shape := ⟨2, ![1, 32768]⟩
abbrev S1024x32768 : Shape := ⟨2, ![1024, 32768]⟩
abbrev S1024x1 : Shape := ⟨2, ![1024, 1]⟩
abbrev S2048x1024 : Shape := ⟨2, ![2048, 1024]⟩
abbrev S1x1024 : Shape := ⟨2, ![1, 1024]⟩
abbrev S1024x1024 : Shape := ⟨2, ![1024, 1024]⟩
abbrev S1024 : Shape := ⟨1, ![1024]⟩
abbrev S1024x8 : Shape := ⟨2, ![1024, 8]⟩

abbrev nBuf : Space → Nat
  | .hbm => 9
  | .vmem => 17
  | .smem => 0
  | _ => 0

abbrev bufTy : (tb : Table) → Fin (tcTables nBuf tb) → BufTy
  | .hbm, ⟨0, _⟩ => ⟨S1024x2048, .f32⟩
  | .hbm, ⟨1, _⟩ => ⟨S2048x32768, .f32⟩
  | .hbm, ⟨2, _⟩ => ⟨S32768, .f32⟩
  | .hbm, ⟨3, _⟩ => ⟨S1x32768, .f32⟩
  | .hbm, ⟨4, _⟩ => ⟨S1024x32768, .f32⟩
  | .hbm, ⟨5, _⟩ => ⟨S1024x1, .f32⟩
  | .hbm, ⟨6, _⟩ => ⟨S1024x1, .i32⟩
  | .hbm, ⟨7, _⟩ => ⟨S1024x32768, .f32⟩
  | .hbm, ⟨8, _⟩ => ⟨S1024, .f32⟩
  | .local _ .vmem, ⟨0, _⟩ => ⟨S1024x2048, .f32⟩
  | .local _ .vmem, ⟨1, _⟩ => ⟨S2048x1024, .f32⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1, .f32⟩
  | .local _ .vmem, ⟨8, _⟩ => ⟨S1024x1, .i32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | .local _ .vmem, ⟨13, _⟩ => ⟨S1024x1, .i32⟩
  | .local _ .vmem, ⟨14, _⟩ => ⟨S1024x1, .i32⟩
  | .local _ .vmem, ⟨15, _⟩ => ⟨S1024x2048, .f32⟩
  | .local _ .vmem, ⟨16, _⟩ => ⟨S1024x2048, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc1_stg0_0 : Ref sig .tc := ⟨.vmem, 14, rfl⟩
abbrev cc1_stg1_0 : Ref sig .tc := ⟨.vmem, 15, rfl⟩
abbrev cc1_stg1_1 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc1_sem0_0 : DmaSem sig := 9
abbrev cc1_sem1_0 : DmaSem sig := 10
abbrev cc1_sem1_1 : DmaSem sig := 11

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v249 : BitVec 1 := Scalar.cmpi .eq arg0 c31_i32
  let v250 : BitVec 32 := Scalar.extui v249
  let c0_i32_74 : BitVec 32 := 0#32
  let v251 : BitVec 1 := Scalar.cmpi .ne v250 c0_i32_74
  v251

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1024x1 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1024x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]
-- ==== ReferenceIdeal.lean ====
abbrev S1024x2048 : Shape := ⟨2, ![1024, 2048]⟩
abbrev S2048x32768 : Shape := ⟨2, ![2048, 32768]⟩
abbrev S32768 : Shape := ⟨1, ![32768]⟩
abbrev S1024x32768 : Shape := ⟨2, ![1024, 32768]⟩
abbrev S1x32768 : Shape := ⟨2, ![1, 32768]⟩
abbrev S_ : Shape := ⟨0, ![]⟩
abbrev S1 : Shape := ⟨1, ![1]⟩
abbrev S2 : Shape := ⟨1, ![2]⟩
abbrev S1x1 : Shape := ⟨2, ![1, 1]⟩
abbrev S1024 : Shape := ⟨1, ![1024]⟩
abbrev S1024x1 : Shape := ⟨2, ![1024, 1]⟩

abbrev nBuf : Space → Nat
  | .hbm => 345
  | .vmem => 0
  | .smem => 0
  | _ => 0

abbrev hbmTy0_0 (i : Nat) : BufTy := match i % 128 with
  | 0 => ⟨S1024x2048, .f32⟩
  | 1 => ⟨S2048x32768, .f32⟩
  | 2 => ⟨S32768, .f32⟩
  | 3 => ⟨S1024x32768, .f32⟩
  | 4 => ⟨S1x32768, .f32⟩
  | 5 => ⟨S1024x32768, .f32⟩
  | 6 => ⟨S1024x32768, .f32⟩
  | 7 => ⟨S_, .i32⟩
  | 8 => ⟨S_, .i32⟩
  | 9 => ⟨S_, .i32⟩
  | 10 => ⟨S_, .i32⟩
  | 11 => ⟨S1, .i32⟩
  | 12 => ⟨S_, .i32⟩
  | 13 => ⟨S_, .i32⟩
  | 14 => ⟨S_, .i32⟩
  | 15 => ⟨S1, .i32⟩
  | 16 => ⟨S2, .i32⟩
  | 17 => ⟨S_, .f32⟩
  | 18 => ⟨S_, .f32⟩
  | 19 => ⟨S_, .f32⟩
  | 20 => ⟨S_, .f32⟩
  | 21 => ⟨S1x1, .f32⟩
  | 22 => ⟨S1x1, .f32⟩
  | 23 => ⟨S1, .i32⟩
  | 24 => ⟨S_, .i32⟩
  | 25 => ⟨S1, .i32⟩
  | 26 => ⟨S_, .i32⟩
  | 27 => ⟨S1024x32768, .i64⟩
  | 28 => ⟨S1024x32768, .i64⟩
  | 29 => ⟨S_, .i64⟩
  | 30 => ⟨S1024x32768, .i64⟩
  | 31 => ⟨S1024x32768, .i64⟩
  | 32 => ⟨S_, .i64⟩
  | 33 => ⟨S1024x32768, .i64⟩
  | 34 => ⟨S1024x32768, .i64⟩
  | 35 => ⟨S1024x32768, .i64⟩
  | 36 => ⟨S_, .i64⟩
  | 37 => ⟨S1024x32768, .i64⟩
  | 38 => ⟨S1024x32768, .i64⟩
  | 39 => ⟨S1024x32768, .i32⟩
  | 40 => ⟨S1024x32768, .i32⟩
  | 41 => ⟨S_, .i32⟩
  | 42 => ⟨S_, .i32⟩
  | 43 => ⟨S_, .i32⟩
  | 44 => ⟨S1024x32768, .i32⟩
  | 45 => ⟨S1024x32768, .i32⟩
  | 46 => ⟨S1024x32768, .i32⟩
  | 47 => ⟨S1024x32768, .i32⟩
  | 48 => ⟨S1024x32768, .i32⟩
  | 49 => ⟨S_, .i32⟩
  | 50 => ⟨S1024x32768, .i32⟩
  | 51 => ⟨S1024x32768, .i32⟩
  | 52 => ⟨S_, .i32⟩
  | 53 => ⟨S1024x32768, .i32⟩
  | 54 => ⟨S1024x32768, .i32⟩
  | 55 => ⟨S1024x32768, .i32⟩
  | 56 => ⟨S1024x32768, .i32⟩
  | 57 => ⟨S1024x32768, .i32⟩
  | 58 => ⟨S_, .i32⟩
  | 59 => ⟨S1024x32768, .i32⟩
  | 60 => ⟨S1024x32768, .i32⟩
  | 61 => ⟨S_, .i32⟩
  | 62 => ⟨S1024x32768, .i32⟩
  | 63 => ⟨S1024x32768, .i32⟩
  | 64 => ⟨S1024x32768, .i32⟩
  | 65 => ⟨S1024x32768, .i32⟩
  | 66 => ⟨S1024x32768, .i32⟩
  | 67 => ⟨S_, .i32⟩
  | 68 => ⟨S1024x32768, .i32⟩
  | 69 => ⟨S1024x32768, .i32⟩
  | 70 => ⟨S_, .i32⟩
  | 71 => ⟨S1024x32768, .i32⟩
  | 72 => ⟨S1024x32768, .i32⟩
  | 73 => ⟨S1024x32768, .i32⟩
  | 74 => ⟨S1024x32768, .i32⟩
  | 75 => ⟨S1024x32768, .i32⟩
  | 76 => ⟨S_, .i32⟩
  | 77 => ⟨S1024x32768, .i32⟩
  | 78 => ⟨S1024x32768, .i32⟩
  | 79 => ⟨S_, .i32⟩
  | 80 => ⟨S1024x32768, .i32⟩
  | 81 => ⟨S1024x32768, .i32⟩
  | 82 => ⟨S1024x32768, .i32⟩
  | 83 => ⟨S1024x32768, .i32⟩
  | 84 => ⟨S1024x32768, .i32⟩
  | 85 => ⟨S1024x32768, .i32⟩
  | 86 => ⟨S1024x32768, .i32⟩
  | 87 => ⟨S1024x32768, .i32⟩
  | 88 => ⟨S_, .i32⟩
  | 89 => ⟨S1024x32768, .i32⟩
  | 90 => ⟨S1024x32768, .i32⟩
  | 91 => ⟨S1024x32768, .i32⟩
  | 92 => ⟨S_, .i32⟩
  | 93 => ⟨S1024x32768, .i32⟩
  | 94 => ⟨S1024x32768, .i32⟩
  | 95 => ⟨S_, .i32⟩
  | 96 => ⟨S1024x32768, .i32⟩
  | 97 => ⟨S1024x32768, .i32⟩
  | 98 => ⟨S1024x32768, .i32⟩
  | 99 => ⟨S1024x32768, .i32⟩
  | 100 => ⟨S1024x32768, .i32⟩
  | 101 => ⟨S_, .i32⟩
  | 102 => ⟨S1024x32768, .i32⟩
  | 103 => ⟨S1024x32768, .i32⟩
  | 104 => ⟨S_, .i32⟩
  | 105 => ⟨S1024x32768, .i32⟩
  | 106 => ⟨S1024x32768, .i32⟩
  | 107 => ⟨S1024x32768, .i32⟩
  | 108 => ⟨S1024x32768, .i32⟩
  | 109 => ⟨S1024x32768, .i32⟩
  | 110 => ⟨S_, .i32⟩
  | 111 => ⟨S1024x32768, .i32⟩
  | 112 => ⟨S1024x32768, .i32⟩
  | 113 => ⟨S_, .i32⟩
  | 114 => ⟨S1024x32768, .i32⟩
  | 115 => ⟨S1024x32768, .i32⟩
  | 116 => ⟨S1024x32768, .i32⟩
  | 117 => ⟨S1024x32768, .i32⟩
  | 118 => ⟨S1024x32768, .i32⟩
  | 119 => ⟨S_, .i32⟩
  | 120 => ⟨S1024x32768, .i32⟩
  | 121 => ⟨S1024x32768, .i32⟩
  | 122 => ⟨S_, .i32⟩
  | 123 => ⟨S1024x32768, .i32⟩
  | 124 => ⟨S1024x32768, .i32⟩
  | 125 => ⟨S1024x32768, .i32⟩
  | 126 => ⟨S1024x32768, .i32⟩
  | 127 => ⟨S1024x32768, .i32⟩
  | _ => ⟨S1024x2048, .f32⟩

abbrev hbmTy0_1 (i : Nat) : BufTy := match i % 128 with
  | 0 => ⟨S1024x32768, .i32⟩
  | 1 => ⟨S1024x32768, .i32⟩
  | 2 => ⟨S1024x32768, .i32⟩
  | 3 => ⟨S_, .i32⟩
  | 4 => ⟨S1024x32768, .i32⟩
  | 5 => ⟨S1024x32768, .i32⟩
  | 6 => ⟨S1024x32768, .i32⟩
  | 7 => ⟨S_, .i32⟩
  | 8 => ⟨S1024x32768, .i32⟩
  | 9 => ⟨S1024x32768, .i32⟩
  | 10 => ⟨S_, .i32⟩
  | 11 => ⟨S1024x32768, .i32⟩
  | 12 => ⟨S1024x32768, .i32⟩
  | 13 => ⟨S1024x32768, .i32⟩
  | 14 => ⟨S1024x32768, .i32⟩
  | 15 => ⟨S1024x32768, .i32⟩
  | 16 => ⟨S_, .i32⟩
  | 17 => ⟨S1024x32768, .i32⟩
  | 18 => ⟨S1024x32768, .i32⟩
  | 19 => ⟨S_, .i32⟩
  | 20 => ⟨S1024x32768, .i32⟩
  | 21 => ⟨S1024x32768, .i32⟩
  | 22 => ⟨S1024x32768, .i32⟩
  | 23 => ⟨S1024x32768, .i32⟩
  | 24 => ⟨S1024x32768, .i32⟩
  | 25 => ⟨S_, .i32⟩
  | 26 => ⟨S1024x32768, .i32⟩
  | 27 => ⟨S1024x32768, .i32⟩
  | 28 => ⟨S_, .i32⟩
  | 29 => ⟨S1024x32768, .i32⟩
  | 30 => ⟨S1024x32768, .i32⟩
  | 31 => ⟨S1024x32768, .i32⟩
  | 32 => ⟨S1024x32768, .i32⟩
  | 33 => ⟨S1024x32768, .i32⟩
  | 34 => ⟨S_, .i32⟩
  | 35 => ⟨S1024x32768, .i32⟩
  | 36 => ⟨S1024x32768, .i32⟩
  | 37 => ⟨S_, .i32⟩
  | 38 => ⟨S1024x32768, .i32⟩
  | 39 => ⟨S1024x32768, .i32⟩
  | 40 => ⟨S1024x32768, .i32⟩
  | 41 => ⟨S1024x32768, .i32⟩
  | 42 => ⟨S1024x32768, .i32⟩
  | 43 => ⟨S1024x32768, .i32⟩
  | 44 => ⟨S1024x32768, .i32⟩
  | 45 => ⟨S1024x32768, .i32⟩
  | 46 => ⟨S_, .i32⟩
  | 47 => ⟨S1024x32768, .i32⟩
  | 48 => ⟨S1024x32768, .i32⟩
  | 49 => ⟨S1024x32768, .i32⟩
  | 50 => ⟨S_, .i32⟩
  | 51 => ⟨S1024x32768, .i32⟩
  | 52 => ⟨S1024x32768, .i32⟩
  | 53 => ⟨S_, .i32⟩
  | 54 => ⟨S1024x32768, .i32⟩
  | 55 => ⟨S1024x32768, .i32⟩
  | 56 => ⟨S1024x32768, .i32⟩
  | 57 => ⟨S1024x32768, .i32⟩
  | 58 => ⟨S1024x32768, .i32⟩
  | 59 => ⟨S_, .i32⟩
  | 60 => ⟨S1024x32768, .i32⟩
  | 61 => ⟨S1024x32768, .i32⟩
  | 62 => ⟨S_, .i32⟩
  | 63 => ⟨S1024x32768, .i32⟩
  | 64 => ⟨S1024x32768, .i32⟩
  | 65 => ⟨S1024x32768, .i32⟩
  | 66 => ⟨S1024x32768, .i32⟩
  | 67 => ⟨S1024x32768, .i32⟩
  | 68 => ⟨S_, .i32⟩
  | 69 => ⟨S1024x32768, .i32⟩
  | 70 => ⟨S1024x32768, .i32⟩
  | 71 => ⟨S_, .i32⟩
  | 72 => ⟨S1024x32768, .i32⟩
  | 73 => ⟨S1024x32768, .i32⟩
  | 74 => ⟨S1024x32768, .i32⟩
  | 75 => ⟨S1024x32768, .i32⟩
  | 76 => ⟨S1024x32768, .i32⟩
  | 77 => ⟨S_, .i32⟩
  | 78 => ⟨S1024x32768, .i32⟩
  | 79 => ⟨S1024x32768, .i32⟩
  | 80 => ⟨S_, .i32⟩
  | 81 => ⟨S1024x32768, .i32⟩
  | 82 => ⟨S1024x32768, .i32⟩
  | 83 => ⟨S1024x32768, .i32⟩
  | 84 => ⟨S1024x32768, .i32⟩
  | 85 => ⟨S1024x32768, .i32⟩
  | 86 => ⟨S1024x32768, .i32⟩
  | 87 => ⟨S1024x32768, .i32⟩
  | 88 => ⟨S1024x32768, .i32⟩
  | 89 => ⟨S_, .i32⟩
  | 90 => ⟨S1024x32768, .i32⟩
  | 91 => ⟨S1024x32768, .i32⟩
  | 92 => ⟨S1024x32768, .i32⟩
  | 93 => ⟨S_, .i32⟩
  | 94 => ⟨S1024x32768, .i32⟩
  | 95 => ⟨S1024x32768, .i32⟩
  | 96 => ⟨S_, .i32⟩
  | 97 => ⟨S1024x32768, .i32⟩
  | 98 => ⟨S1024x32768, .i32⟩
  | 99 => ⟨S1024x32768, .i32⟩
  | 100 => ⟨S1024x32768, .i32⟩
  | 101 => ⟨S1024x32768, .i32⟩
  | 102 => ⟨S_, .i32⟩
  | 103 => ⟨S1024x32768, .i32⟩
  | 104 => ⟨S1024x32768, .i32⟩
  | 105 => ⟨S_, .i32⟩
  | 106 => ⟨S1024x32768, .i32⟩
  | 107 => ⟨S1024x32768, .i32⟩
  | 108 => ⟨S1024x32768, .i32⟩
  | 109 => ⟨S1024x32768, .i32⟩
  | 110 => ⟨S1024x32768, .i32⟩
  | 111 => ⟨S_, .i32⟩
  | 112 => ⟨S1024x32768, .i32⟩
  | 113 => ⟨S1024x32768, .i32⟩
  | 114 => ⟨S_, .i32⟩
  | 115 => ⟨S1024x32768, .i32⟩
  | 116 => ⟨S1024x32768, .i32⟩
  | 117 => ⟨S1024x32768, .i32⟩
  | 118 => ⟨S1024x32768, .i32⟩
  | 119 => ⟨S1024x32768, .i32⟩
  | 120 => ⟨S_, .i32⟩
  | 121 => ⟨S1024x32768, .i32⟩
  | 122 => ⟨S1024x32768, .i32⟩
  | 123 => ⟨S_, .i32⟩
  | 124 => ⟨S1024x32768, .i32⟩
  | 125 => ⟨S1024x32768, .i32⟩
  | 126 => ⟨S1024x32768, .i32⟩
  | 127 => ⟨S1024x32768, .i32⟩
  | _ => ⟨S1024x2048, .f32⟩

abbrev hbmTy0_2 (i : Nat) : BufTy := match i % 128 with
  | 0 => ⟨S1024x32768, .i32⟩
  | 1 => ⟨S1024x32768, .i32⟩
  | 2 => ⟨S1024x32768, .i32⟩
  | 3 => ⟨S1024x32768, .i32⟩
  | 4 => ⟨S_, .i32⟩
  | 5 => ⟨S1024x32768, .i32⟩
  | 6 => ⟨S1024x32768, .i32⟩
  | 7 => ⟨S1024x32768, .i32⟩
  | 8 => ⟨S_, .i32⟩
  | 9 => ⟨S1024x32768, .i32⟩
  | 10 => ⟨S1024x32768, .i32⟩
  | 11 => ⟨S_, .i32⟩
  | 12 => ⟨S1024x32768, .i32⟩
  | 13 => ⟨S1024x32768, .i32⟩
  | 14 => ⟨S1024x32768, .f32⟩
  | 15 => ⟨S_, .f32⟩
  | 16 => ⟨S1024x32768, .f32⟩
  | 17 => ⟨S1024x32768, .f32⟩
  | 18 => ⟨S1x1, .f32⟩
  | 19 => ⟨S1024x32768, .f32⟩
  | 20 => ⟨S1024x32768, .f32⟩
  | 21 => ⟨S1024x32768, .f32⟩
  | 22 => ⟨S1024x32768, .f32⟩
  | 23 => ⟨S1024x32768, .f32⟩
  | 24 => ⟨S1024x32768, .f32⟩
  | 25 => ⟨S_, .f32⟩
  | 26 => ⟨S1024x32768, .f32⟩
  | 27 => ⟨S1024x32768, .f32⟩
  | 28 => ⟨S_, .f32⟩
  | 29 => ⟨S1024x32768, .f32⟩
  | 30 => ⟨S1024x32768, .f32⟩
  | 31 => ⟨S_, .f32⟩
  | 32 => ⟨S1024x32768, .f32⟩
  | 33 => ⟨S1024x32768, .f32⟩
  | 34 => ⟨S1024x32768, .f32⟩
  | 35 => ⟨S1024x32768, .f32⟩
  | 36 => ⟨S1024x32768, .f32⟩
  | 37 => ⟨S1024x32768, .f32⟩
  | 38 => ⟨S1024x32768, .f32⟩
  | 39 => ⟨S_, .f32⟩
  | 40 => ⟨S1024x32768, .f32⟩
  | 41 => ⟨S1024x32768, .f32⟩
  | 42 => ⟨S_, .f32⟩
  | 43 => ⟨S1024, .f32⟩
  | 44 => ⟨S_, .f32⟩
  | 45 => ⟨S1024, .f32⟩
  | 46 => ⟨S1024, .f32⟩
  | 47 => ⟨S1024x1, .f32⟩
  | 48 => ⟨S1024x32768, .f32⟩
  | 49 => ⟨S1024x32768, .f32⟩
  | 50 => ⟨S1024x32768, .f32⟩
  | 51 => ⟨S_, .f32⟩
  | 52 => ⟨S1024, .f32⟩
  | 53 => ⟨S1024x1, .f32⟩
  | 54 => ⟨S1024x32768, .f32⟩
  | 55 => ⟨S1024x32768, .f32⟩
  | 56 => ⟨S1024x32768, .i32⟩
  | 57 => ⟨S_, .f32⟩
  | 58 => ⟨S_, .i32⟩
  | 59 => ⟨S1024, .f32⟩
  | 60 => ⟨S1024, .i32⟩
  | 61 => ⟨S1024x1, .i32⟩
  | 62 => ⟨S1x32768, .i32⟩
  | 63 => ⟨S1024x32768, .i32⟩
  | 64 => ⟨S1024x32768, .i32⟩
  | 65 => ⟨S1024x32768, .i1⟩
  | 66 => ⟨S1024x32768, .f32⟩
  | 67 => ⟨S1024x32768, .f32⟩
  | 68 => ⟨S1024x32768, .f32⟩
  | 69 => ⟨S_, .f32⟩
  | 70 => ⟨S1024, .f32⟩
  | 71 => ⟨S_, .f32⟩
  | 72 => ⟨S1024, .f32⟩
  | 73 => ⟨S1024, .f32⟩
  | 74 => ⟨S1024x1, .f32⟩
  | 75 => ⟨S1024x32768, .f32⟩
  | 76 => ⟨S1024x32768, .f32⟩
  | 77 => ⟨S1024x32768, .f32⟩
  | 78 => ⟨S_, .f32⟩
  | 79 => ⟨S1024, .f32⟩
  | 80 => ⟨S1024x1, .f32⟩
  | 81 => ⟨S1024x1, .f32⟩
  | 82 => ⟨S1024x32768, .f32⟩
  | 83 => ⟨S1024x32768, .f32⟩
  | 84 => ⟨S1024x32768, .f32⟩
  | 85 => ⟨S1024x32768, .f32⟩
  | 86 => ⟨S_, .f32⟩
  | 87 => ⟨S1024, .f32⟩
  | 88 => ⟨S1024, .f32⟩
  | _ => ⟨S1024x2048, .f32⟩

abbrev hbmTy (i : Nat) : BufTy := match i / 128 with
  | 0 => hbmTy0_0 i
  | 1 => hbmTy0_1 i
  | 2 => hbmTy0_2 i
  | _ => ⟨S1024x2048, .f32⟩

abbrev bufTy : (tb : Table) → Fin (tcTables nBuf tb) → BufTy
  | .hbm, ⟨i, _⟩ => hbmTy i
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_cst_2 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_c : Ref sig .tc := ⟨.hbm, 29, rfl⟩
abbrev main_call0_v10 : Ref sig .tc := ⟨.hbm, 30, rfl⟩
abbrev main_call0_v11 : Ref sig .tc := ⟨.hbm, 31, rfl⟩
abbrev main_call0_c_0 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_c_1 : Ref sig .tc := ⟨.hbm, 36, rfl⟩
abbrev main_call0_v15 : Ref sig .tc := ⟨.hbm, 37, rfl⟩
abbrev main_call0_v16 : Ref sig .tc := ⟨.hbm, 38, rfl⟩
abbrev main_call0_v17 : Ref sig .tc := ⟨.hbm, 39, rfl⟩
abbrev main_call0_v18 : Ref sig .tc := ⟨.hbm, 40, rfl⟩
abbrev main_call0_call0_v0 : Ref sig .tc := ⟨.hbm, 41, rfl⟩
abbrev main_call0_call0_c : Ref sig .tc := ⟨.hbm, 42, rfl⟩
abbrev main_call0_call0_v1 : Ref sig .tc := ⟨.hbm, 43, rfl⟩
abbrev main_call0_call0_v2 : Ref sig .tc := ⟨.hbm, 44, rfl⟩
abbrev main_call0_call0_v3 : Ref sig .tc := ⟨.hbm, 45, rfl⟩
abbrev main_call0_call0_v4 : Ref sig .tc := ⟨.hbm, 46, rfl⟩
abbrev main_call0_call0_v5 : Ref sig .tc := ⟨.hbm, 47, rfl⟩
abbrev main_call0_call0_v6 : Ref sig .tc := ⟨.hbm, 48, rfl⟩
abbrev main_call0_call0_c_0 : Ref sig .tc := ⟨.hbm, 49, rfl⟩
abbrev main_call0_call0_v7 : Ref sig .tc := ⟨.hbm, 50, rfl⟩
abbrev main_call0_call0_v8 : Ref sig .tc := ⟨.hbm, 51, rfl⟩
abbrev main_call0_call0_c_1 : Ref sig .tc := ⟨.hbm, 52, rfl⟩
abbrev main_call0_call0_v9 : Ref sig .tc := ⟨.hbm, 53, rfl⟩
abbrev main_call0_call0_v10 : Ref sig .tc := ⟨.hbm, 54, rfl⟩
abbrev main_call0_call0_v11 : Ref sig .tc := ⟨.hbm, 55, rfl⟩
abbrev main_call0_call0_v12 : Ref sig .tc := ⟨.hbm, 56, rfl⟩
abbrev main_call0_call0_v13 : Ref sig .tc := ⟨.hbm, 57, rfl⟩
abbrev main_call0_call0_c_2 : Ref sig .tc := ⟨.hbm, 58, rfl⟩
abbrev main_call0_call0_v14 : Ref sig .tc := ⟨.hbm, 59, rfl⟩
abbrev main_call0_call0_v15 : Ref sig .tc := ⟨.hbm, 60, rfl⟩
abbrev main_call0_call0_c_3 : Ref sig .tc := ⟨.hbm, 61, rfl⟩
abbrev main_call0_call0_v16 : Ref sig .tc := ⟨.hbm, 62, rfl⟩
abbrev main_call0_call0_v17 : Ref sig .tc := ⟨.hbm, 63, rfl⟩
abbrev main_call0_call0_v18 : Ref sig .tc := ⟨.hbm, 64, rfl⟩
abbrev main_call0_call0_v19 : Ref sig .tc := ⟨.hbm, 65, rfl⟩
abbrev main_call0_call0_v20 : Ref sig .tc := ⟨.hbm, 66, rfl⟩
abbrev main_call0_call0_c_4 : Ref sig .tc := ⟨.hbm, 67, rfl⟩
abbrev main_call0_call0_v21 : Ref sig .tc := ⟨.hbm, 68, rfl⟩
abbrev main_call0_call0_v22 : Ref sig .tc := ⟨.hbm, 69, rfl⟩
abbrev main_call0_call0_c_5 : Ref sig .tc := ⟨.hbm, 70, rfl⟩
abbrev main_call0_call0_v23 : Ref sig .tc := ⟨.hbm, 71, rfl⟩
abbrev main_call0_call0_v24 : Ref sig .tc := ⟨.hbm, 72, rfl⟩
abbrev main_call0_call0_v25 : Ref sig .tc := ⟨.hbm, 73, rfl⟩
abbrev main_call0_call0_v26 : Ref sig .tc := ⟨.hbm, 74, rfl⟩
abbrev main_call0_call0_v27 : Ref sig .tc := ⟨.hbm, 75, rfl⟩
abbrev main_call0_call0_c_6 : Ref sig .tc := ⟨.hbm, 76, rfl⟩
abbrev main_call0_call0_v28 : Ref sig .tc := ⟨.hbm, 77, rfl⟩
abbrev main_call0_call0_v29 : Ref sig .tc := ⟨.hbm, 78, rfl⟩
abbrev main_call0_call0_c_7 : Ref sig .tc := ⟨.hbm, 79, rfl⟩
abbrev main_call0_call0_v30 : Ref sig .tc := ⟨.hbm, 80, rfl⟩
abbrev main_call0_call0_v31 : Ref sig .tc := ⟨.hbm, 81, rfl⟩
abbrev main_call0_call0_v32 : Ref sig .tc := ⟨.hbm, 82, rfl⟩
abbrev main_call0_call0_v33 : Ref sig .tc := ⟨.hbm, 83, rfl⟩
abbrev main_call0_call0_v34 : Ref sig .tc := ⟨.hbm, 84, rfl⟩
abbrev main_call0_call0_v35 : Ref sig .tc := ⟨.hbm, 85, rfl⟩
abbrev main_call0_call0_v36 : Ref sig .tc := ⟨.hbm, 86, rfl⟩
abbrev main_call0_call0_v37 : Ref sig .tc := ⟨.hbm, 87, rfl⟩
abbrev main_call0_call0_c_8 : Ref sig .tc := ⟨.hbm, 88, rfl⟩
abbrev main_call0_call0_v38 : Ref sig .tc := ⟨.hbm, 89, rfl⟩
abbrev main_call0_call0_v39 : Ref sig .tc := ⟨.hbm, 90, rfl⟩
abbrev main_call0_call0_v40 : Ref sig .tc := ⟨.hbm, 91, rfl⟩
abbrev main_call0_call0_c_9 : Ref sig .tc := ⟨.hbm, 92, rfl⟩
abbrev main_call0_call0_v41 : Ref sig .tc := ⟨.hbm, 93, rfl⟩
abbrev main_call0_call0_v42 : Ref sig .tc := ⟨.hbm, 94, rfl⟩
abbrev main_call0_call0_c_10 : Ref sig .tc := ⟨.hbm, 95, rfl⟩
abbrev main_call0_call0_v43 : Ref sig .tc := ⟨.hbm, 96, rfl⟩
abbrev main_call0_call0_v44 : Ref sig .tc := ⟨.hbm, 97, rfl⟩
abbrev main_call0_call0_v45 : Ref sig .tc := ⟨.hbm, 98, rfl⟩
abbrev main_call0_call0_v46 : Ref sig .tc := ⟨.hbm, 99, rfl⟩
abbrev main_call0_call0_v47 : Ref sig .tc := ⟨.hbm, 100, rfl⟩
abbrev main_call0_call0_c_11 : Ref sig .tc := ⟨.hbm, 101, rfl⟩
abbrev main_call0_call0_v48 : Ref sig .tc := ⟨.hbm, 102, rfl⟩
abbrev main_call0_call0_v49 : Ref sig .tc := ⟨.hbm, 103, rfl⟩
abbrev main_call0_call0_c_12 : Ref sig .tc := ⟨.hbm, 104, rfl⟩
abbrev main_call0_call0_v50 : Ref sig .tc := ⟨.hbm, 105, rfl⟩
abbrev main_call0_call0_v51 : Ref sig .tc := ⟨.hbm, 106, rfl⟩
abbrev main_call0_call0_v52 : Ref sig .tc := ⟨.hbm, 107, rfl⟩
abbrev main_call0_call0_v53 : Ref sig .tc := ⟨.hbm, 108, rfl⟩
abbrev main_call0_call0_v54 : Ref sig .tc := ⟨.hbm, 109, rfl⟩
abbrev main_call0_call0_c_13 : Ref sig .tc := ⟨.hbm, 110, rfl⟩
abbrev main_call0_call0_v55 : Ref sig .tc := ⟨.hbm, 111, rfl⟩
abbrev main_call0_call0_v56 : Ref sig .tc := ⟨.hbm, 112, rfl⟩
abbrev main_call0_call0_c_14 : Ref sig .tc := ⟨.hbm, 113, rfl⟩
abbrev main_call0_call0_v57 : Ref sig .tc := ⟨.hbm, 114, rfl⟩
abbrev main_call0_call0_v58 : Ref sig .tc := ⟨.hbm, 115, rfl⟩
abbrev main_call0_call0_v59 : Ref sig .tc := ⟨.hbm, 116, rfl⟩
abbrev main_call0_call0_v60 : Ref sig .tc := ⟨.hbm, 117, rfl⟩
abbrev main_call0_call0_v61 : Ref sig .tc := ⟨.hbm, 118, rfl⟩
abbrev main_call0_call0_c_15 : Ref sig .tc := ⟨.hbm, 119, rfl⟩
abbrev main_call0_call0_v62 : Ref sig .tc := ⟨.hbm, 120, rfl⟩
abbrev main_call0_call0_v63 : Ref sig .tc := ⟨.hbm, 121, rfl⟩
abbrev main_call0_call0_c_16 : Ref sig .tc := ⟨.hbm, 122, rfl⟩
abbrev main_call0_call0_v64 : Ref sig .tc := ⟨.hbm, 123, rfl⟩
abbrev main_call0_call0_v65 : Ref sig .tc := ⟨.hbm, 124, rfl⟩
abbrev main_call0_call0_v66 : Ref sig .tc := ⟨.hbm, 125, rfl⟩
abbrev main_call0_call0_v67 : Ref sig .tc := ⟨.hbm, 126, rfl⟩
abbrev main_call0_call0_v68 : Ref sig .tc := ⟨.hbm, 127, rfl⟩
abbrev main_call0_call0_v69 : Ref sig .tc := ⟨.hbm, 128, rfl⟩
abbrev main_call0_call0_v70 : Ref sig .tc := ⟨.hbm, 129, rfl⟩
abbrev main_call0_call0_v71 : Ref sig .tc := ⟨.hbm, 130, rfl⟩
abbrev main_call0_call0_c_17 : Ref sig .tc := ⟨.hbm, 131, rfl⟩
abbrev main_call0_call0_v72 : Ref sig .tc := ⟨.hbm, 132, rfl⟩
abbrev main_call0_call0_v73 : Ref sig .tc := ⟨.hbm, 133, rfl⟩
abbrev main_call0_call0_v74 : Ref sig .tc := ⟨.hbm, 134, rfl⟩
abbrev main_call0_call0_c_18 : Ref sig .tc := ⟨.hbm, 135, rfl⟩
abbrev main_call0_call0_v75 : Ref sig .tc := ⟨.hbm, 136, rfl⟩
abbrev main_call0_call0_v76 : Ref sig .tc := ⟨.hbm, 137, rfl⟩
abbrev main_call0_call0_c_19 : Ref sig .tc := ⟨.hbm, 138, rfl⟩
abbrev main_call0_call0_v77 : Ref sig .tc := ⟨.hbm, 139, rfl⟩
abbrev main_call0_call0_v78 : Ref sig .tc := ⟨.hbm, 140, rfl⟩
abbrev main_call0_call0_v79 : Ref sig .tc := ⟨.hbm, 141, rfl⟩
abbrev main_call0_call0_v80 : Ref sig .tc := ⟨.hbm, 142, rfl⟩
abbrev main_call0_call0_v81 : Ref sig .tc := ⟨.hbm, 143, rfl⟩
abbrev main_call0_call0_c_20 : Ref sig .tc := ⟨.hbm, 144, rfl⟩
abbrev main_call0_call0_v82 : Ref sig .tc := ⟨.hbm, 145, rfl⟩
abbrev main_call0_call0_v83 : Ref sig .tc := ⟨.hbm, 146, rfl⟩
abbrev main_call0_call0_c_21 : Ref sig .tc := ⟨.hbm, 147, rfl⟩
abbrev main_call0_call0_v84 : Ref sig .tc := ⟨.hbm, 148, rfl⟩
abbrev main_call0_call0_v85 : Ref sig .tc := ⟨.hbm, 149, rfl⟩
abbrev main_call0_call0_v86 : Ref sig .tc := ⟨.hbm, 150, rfl⟩
abbrev main_call0_call0_v87 : Ref sig .tc := ⟨.hbm, 151, rfl⟩
abbrev main_call0_call0_v88 : Ref sig .tc := ⟨.hbm, 152, rfl⟩
abbrev main_call0_call0_c_22 : Ref sig .tc := ⟨.hbm, 153, rfl⟩
abbrev main_call0_call0_v89 : Ref sig .tc := ⟨.hbm, 154, rfl⟩
abbrev main_call0_call0_v90 : Ref sig .tc := ⟨.hbm, 155, rfl⟩
abbrev main_call0_call0_c_23 : Ref sig .tc := ⟨.hbm, 156, rfl⟩
abbrev main_call0_call0_v91 : Ref sig .tc := ⟨.hbm, 157, rfl⟩
abbrev main_call0_call0_v92 : Ref sig .tc := ⟨.hbm, 158, rfl⟩
abbrev main_call0_call0_v93 : Ref sig .tc := ⟨.hbm, 159, rfl⟩
abbrev main_call0_call0_v94 : Ref sig .tc := ⟨.hbm, 160, rfl⟩
abbrev main_call0_call0_v95 : Ref sig .tc := ⟨.hbm, 161, rfl⟩
abbrev main_call0_call0_c_24 : Ref sig .tc := ⟨.hbm, 162, rfl⟩
abbrev main_call0_call0_v96 : Ref sig .tc := ⟨.hbm, 163, rfl⟩
abbrev main_call0_call0_v97 : Ref sig .tc := ⟨.hbm, 164, rfl⟩
abbrev main_call0_call0_c_25 : Ref sig .tc := ⟨.hbm, 165, rfl⟩
abbrev main_call0_call0_v98 : Ref sig .tc := ⟨.hbm, 166, rfl⟩
abbrev main_call0_call0_v99 : Ref sig .tc := ⟨.hbm, 167, rfl⟩
abbrev main_call0_call0_v100 : Ref sig .tc := ⟨.hbm, 168, rfl⟩
abbrev main_call0_call0_v101 : Ref sig .tc := ⟨.hbm, 169, rfl⟩
abbrev main_call0_call0_v102 : Ref sig .tc := ⟨.hbm, 170, rfl⟩
abbrev main_call0_call0_v103 : Ref sig .tc := ⟨.hbm, 171, rfl⟩
abbrev main_call0_call0_v104 : Ref sig .tc := ⟨.hbm, 172, rfl⟩
abbrev main_call0_call0_v105 : Ref sig .tc := ⟨.hbm, 173, rfl⟩
abbrev main_call0_call0_c_26 : Ref sig .tc := ⟨.hbm, 174, rfl⟩
abbrev main_call0_call0_v106 : Ref sig .tc := ⟨.hbm, 175, rfl⟩
abbrev main_call0_call0_v107 : Ref sig .tc := ⟨.hbm, 176, rfl⟩
abbrev main_call0_call0_v108 : Ref sig .tc := ⟨.hbm, 177, rfl⟩
abbrev main_call0_call0_c_27 : Ref sig .tc := ⟨.hbm, 178, rfl⟩
abbrev main_call0_call0_v109 : Ref sig .tc := ⟨.hbm, 179, rfl⟩
abbrev main_call0_call0_v110 : Ref sig .tc := ⟨.hbm, 180, rfl⟩
abbrev main_call0_call0_c_28 : Ref sig .tc := ⟨.hbm, 181, rfl⟩
abbrev main_call0_call0_v111 : Ref sig .tc := ⟨.hbm, 182, rfl⟩
abbrev main_call0_call0_v112 : Ref sig .tc := ⟨.hbm, 183, rfl⟩
abbrev main_call0_call0_v113 : Ref sig .tc := ⟨.hbm, 184, rfl⟩
abbrev main_call0_call0_v114 : Ref sig .tc := ⟨.hbm, 185, rfl⟩
abbrev main_call0_call0_v115 : Ref sig .tc := ⟨.hbm, 186, rfl⟩
abbrev main_call0_call0_c_29 : Ref sig .tc := ⟨.hbm, 187, rfl⟩
abbrev main_call0_call0_v116 : Ref sig .tc := ⟨.hbm, 188, rfl⟩
abbrev main_call0_call0_v117 : Ref sig .tc := ⟨.hbm, 189, rfl⟩
abbrev main_call0_call0_c_30 : Ref sig .tc := ⟨.hbm, 190, rfl⟩
abbrev main_call0_call0_v118 : Ref sig .tc := ⟨.hbm, 191, rfl⟩
abbrev main_call0_call0_v119 : Ref sig .tc := ⟨.hbm, 192, rfl⟩
abbrev main_call0_call0_v120 : Ref sig .tc := ⟨.hbm, 193, rfl⟩
abbrev main_call0_call0_v121 : Ref sig .tc := ⟨.hbm, 194, rfl⟩
abbrev main_call0_call0_v122 : Ref sig .tc := ⟨.hbm, 195, rfl⟩
abbrev main_call0_call0_c_31 : Ref sig .tc := ⟨.hbm, 196, rfl⟩
abbrev main_call0_call0_v123 : Ref sig .tc := ⟨.hbm, 197, rfl⟩
abbrev main_call0_call0_v124 : Ref sig .tc := ⟨.hbm, 198, rfl⟩
abbrev main_call0_call0_c_32 : Ref sig .tc := ⟨.hbm, 199, rfl⟩
abbrev main_call0_call0_v125 : Ref sig .tc := ⟨.hbm, 200, rfl⟩
abbrev main_call0_call0_v126 : Ref sig .tc := ⟨.hbm, 201, rfl⟩
abbrev main_call0_call0_v127 : Ref sig .tc := ⟨.hbm, 202, rfl⟩
abbrev main_call0_call0_v128 : Ref sig .tc := ⟨.hbm, 203, rfl⟩
abbrev main_call0_call0_v129 : Ref sig .tc := ⟨.hbm, 204, rfl⟩
abbrev main_call0_call0_c_33 : Ref sig .tc := ⟨.hbm, 205, rfl⟩
abbrev main_call0_call0_v130 : Ref sig .tc := ⟨.hbm, 206, rfl⟩
abbrev main_call0_call0_v131 : Ref sig .tc := ⟨.hbm, 207, rfl⟩
abbrev main_call0_call0_c_34 : Ref sig .tc := ⟨.hbm, 208, rfl⟩
abbrev main_call0_call0_v132 : Ref sig .tc := ⟨.hbm, 209, rfl⟩
abbrev main_call0_call0_v133 : Ref sig .tc := ⟨.hbm, 210, rfl⟩
abbrev main_call0_call0_v134 : Ref sig .tc := ⟨.hbm, 211, rfl⟩
abbrev main_call0_call0_v135 : Ref sig .tc := ⟨.hbm, 212, rfl⟩
abbrev main_call0_call0_v136 : Ref sig .tc := ⟨.hbm, 213, rfl⟩
abbrev main_call0_call0_v137 : Ref sig .tc := ⟨.hbm, 214, rfl⟩
abbrev main_call0_call0_v138 : Ref sig .tc := ⟨.hbm, 215, rfl⟩
abbrev main_call0_call0_v139 : Ref sig .tc := ⟨.hbm, 216, rfl⟩
abbrev main_call0_call0_c_35 : Ref sig .tc := ⟨.hbm, 217, rfl⟩
abbrev main_call0_call0_v140 : Ref sig .tc := ⟨.hbm, 218, rfl⟩
abbrev main_call0_call0_v141 : Ref sig .tc := ⟨.hbm, 219, rfl⟩
abbrev main_call0_call0_v142 : Ref sig .tc := ⟨.hbm, 220, rfl⟩
abbrev main_call0_call0_c_36 : Ref sig .tc := ⟨.hbm, 221, rfl⟩
abbrev main_call0_call0_v143 : Ref sig .tc := ⟨.hbm, 222, rfl⟩
abbrev main_call0_call0_v144 : Ref sig .tc := ⟨.hbm, 223, rfl⟩
abbrev main_call0_call0_c_37 : Ref sig .tc := ⟨.hbm, 224, rfl⟩
abbrev main_call0_call0_v145 : Ref sig .tc := ⟨.hbm, 225, rfl⟩
abbrev main_call0_call0_v146 : Ref sig .tc := ⟨.hbm, 226, rfl⟩
abbrev main_call0_call0_v147 : Ref sig .tc := ⟨.hbm, 227, rfl⟩
abbrev main_call0_call0_v148 : Ref sig .tc := ⟨.hbm, 228, rfl⟩
abbrev main_call0_call0_v149 : Ref sig .tc := ⟨.hbm, 229, rfl⟩
abbrev main_call0_call0_c_38 : Ref sig .tc := ⟨.hbm, 230, rfl⟩
abbrev main_call0_call0_v150 : Ref sig .tc := ⟨.hbm, 231, rfl⟩
abbrev main_call0_call0_v151 : Ref sig .tc := ⟨.hbm, 232, rfl⟩
abbrev main_call0_call0_c_39 : Ref sig .tc := ⟨.hbm, 233, rfl⟩
abbrev main_call0_call0_v152 : Ref sig .tc := ⟨.hbm, 234, rfl⟩
abbrev main_call0_call0_v153 : Ref sig .tc := ⟨.hbm, 235, rfl⟩
abbrev main_call0_call0_v154 : Ref sig .tc := ⟨.hbm, 236, rfl⟩
abbrev main_call0_call0_v155 : Ref sig .tc := ⟨.hbm, 237, rfl⟩
abbrev main_call0_call0_v156 : Ref sig .tc := ⟨.hbm, 238, rfl⟩
abbrev main_call0_call0_c_40 : Ref sig .tc := ⟨.hbm, 239, rfl⟩
abbrev main_call0_call0_v157 : Ref sig .tc := ⟨.hbm, 240, rfl⟩
abbrev main_call0_call0_v158 : Ref sig .tc := ⟨.hbm, 241, rfl⟩
abbrev main_call0_call0_c_41 : Ref sig .tc := ⟨.hbm, 242, rfl⟩
abbrev main_call0_call0_v159 : Ref sig .tc := ⟨.hbm, 243, rfl⟩
abbrev main_call0_call0_v160 : Ref sig .tc := ⟨.hbm, 244, rfl⟩
abbrev main_call0_call0_v161 : Ref sig .tc := ⟨.hbm, 245, rfl⟩
abbrev main_call0_call0_v162 : Ref sig .tc := ⟨.hbm, 246, rfl⟩
abbrev main_call0_call0_v163 : Ref sig .tc := ⟨.hbm, 247, rfl⟩
abbrev main_call0_call0_c_42 : Ref sig .tc := ⟨.hbm, 248, rfl⟩
abbrev main_call0_call0_v164 : Ref sig .tc := ⟨.hbm, 249, rfl⟩
abbrev main_call0_call0_v165 : Ref sig .tc := ⟨.hbm, 250, rfl⟩
abbrev main_call0_call0_c_43 : Ref sig .tc := ⟨.hbm, 251, rfl⟩
abbrev main_call0_call0_v166 : Ref sig .tc := ⟨.hbm, 252, rfl⟩
abbrev main_call0_call0_v167 : Ref sig .tc := ⟨.hbm, 253, rfl⟩
abbrev main_call0_call0_v168 : Ref sig .tc := ⟨.hbm, 254, rfl⟩
abbrev main_call0_call0_v169 : Ref sig .tc := ⟨.hbm, 255, rfl⟩
abbrev main_call0_call0_v170 : Ref sig .tc := ⟨.hbm, 256, rfl⟩
abbrev main_call0_v19_0 : Ref sig .tc := ⟨.hbm, 257, rfl⟩
abbrev main_call0_call0_v172 : Ref sig .tc := ⟨.hbm, 258, rfl⟩
abbrev main_call0_call0_v173 : Ref sig .tc := ⟨.hbm, 259, rfl⟩
abbrev main_call0_call0_c_44 : Ref sig .tc := ⟨.hbm, 260, rfl⟩
abbrev main_call0_call0_v174 : Ref sig .tc := ⟨.hbm, 261, rfl⟩
abbrev main_call0_v19_1 : Ref sig .tc := ⟨.hbm, 262, rfl⟩
abbrev main_call0_v20 : Ref sig .tc := ⟨.hbm, 263, rfl⟩
abbrev main_call0_c_2 : Ref sig .tc := ⟨.hbm, 264, rfl⟩
abbrev main_call0_v21 : Ref sig .tc := ⟨.hbm, 265, rfl⟩
abbrev main_call0_v22 : Ref sig .tc := ⟨.hbm, 266, rfl⟩
abbrev main_call0_c_3 : Ref sig .tc := ⟨.hbm, 267, rfl⟩
abbrev main_call0_v23 : Ref sig .tc := ⟨.hbm, 268, rfl⟩
abbrev main_call0_v24 : Ref sig .tc := ⟨.hbm, 269, rfl⟩
abbrev main_call0_v25 : Ref sig .tc := ⟨.hbm, 270, rfl⟩
abbrev main_call0_cst : Ref sig .tc := ⟨.hbm, 271, rfl⟩
abbrev main_call0_v26 : Ref sig .tc := ⟨.hbm, 272, rfl⟩
abbrev main_call0_v27 : Ref sig .tc := ⟨.hbm, 273, rfl⟩
abbrev main_call0_v28 : Ref sig .tc := ⟨.hbm, 274, rfl⟩
abbrev main_call0_v29 : Ref sig .tc := ⟨.hbm, 275, rfl⟩
abbrev main_call0_v30 : Ref sig .tc := ⟨.hbm, 276, rfl⟩
abbrev main_call0_v31 : Ref sig .tc := ⟨.hbm, 277, rfl⟩
abbrev main_call0_v32 : Ref sig .tc := ⟨.hbm, 278, rfl⟩
abbrev main_call0_v33 : Ref sig .tc := ⟨.hbm, 279, rfl⟩
abbrev main_v11 : Ref sig .tc := ⟨.hbm, 280, rfl⟩
abbrev main_cst_3 : Ref sig .tc := ⟨.hbm, 281, rfl⟩
abbrev main_v12 : Ref sig .tc := ⟨.hbm, 282, rfl⟩
abbrev main_v13 : Ref sig .tc := ⟨.hbm, 283, rfl⟩
abbrev main_cst_4 : Ref sig .tc := ⟨.hbm, 284, rfl⟩
abbrev main_v14 : Ref sig .tc := ⟨.hbm, 285, rfl⟩
abbrev main_v15 : Ref sig .tc := ⟨.hbm, 286, rfl⟩
abbrev main_cst_5 : Ref sig .tc := ⟨.hbm, 287, rfl⟩
abbrev main_v16 : Ref sig .tc := ⟨.hbm, 288, rfl⟩
abbrev main_v17 : Ref sig .tc := ⟨.hbm, 289, rfl⟩
abbrev main_v18 : Ref sig .tc := ⟨.hbm, 290, rfl⟩
abbrev main_v19 : Ref sig .tc := ⟨.hbm, 291, rfl⟩
abbrev main_v20 : Ref sig .tc := ⟨.hbm, 292, rfl⟩
abbrev main_v21 : Ref sig .tc := ⟨.hbm, 293, rfl⟩
abbrev main_v22 : Ref sig .tc := ⟨.hbm, 294, rfl⟩
abbrev main_cst_6 : Ref sig .tc := ⟨.hbm, 295, rfl⟩
abbrev main_v23 : Ref sig .tc := ⟨.hbm, 296, rfl⟩
abbrev main_v24 : Ref sig .tc := ⟨.hbm, 297, rfl⟩
abbrev main_cst_7 : Ref sig .tc := ⟨.hbm, 298, rfl⟩
abbrev main_v25 : Ref sig .tc := ⟨.hbm, 299, rfl⟩
abbrev main_cst_8 : Ref sig .tc := ⟨.hbm, 300, rfl⟩
abbrev main_v26 : Ref sig .tc := ⟨.hbm, 301, rfl⟩
abbrev main_v27 : Ref sig .tc := ⟨.hbm, 302, rfl⟩
abbrev main_v28 : Ref sig .tc := ⟨.hbm, 303, rfl⟩
abbrev main_v29 : Ref sig .tc := ⟨.hbm, 304, rfl⟩
abbrev main_v30 : Ref sig .tc := ⟨.hbm, 305, rfl⟩
abbrev main_v31 : Ref sig .tc := ⟨.hbm, 306, rfl⟩
abbrev main_cst_9 : Ref sig .tc := ⟨.hbm, 307, rfl⟩
abbrev main_v32 : Ref sig .tc := ⟨.hbm, 308, rfl⟩
abbrev main_v33 : Ref sig .tc := ⟨.hbm, 309, rfl⟩
abbrev main_v34 : Ref sig .tc := ⟨.hbm, 310, rfl⟩
abbrev main_v35 : Ref sig .tc := ⟨.hbm, 311, rfl⟩
abbrev main_call1_v0 : Ref sig .tc := ⟨.hbm, 312, rfl⟩
abbrev main_call1_cst : Ref sig .tc := ⟨.hbm, 313, rfl⟩
abbrev main_call1_c : Ref sig .tc := ⟨.hbm, 314, rfl⟩
abbrev main_call1_v1_0 : Ref sig .tc := ⟨.hbm, 315, rfl⟩
abbrev main_v36 : Ref sig .tc := ⟨.hbm, 316, rfl⟩
abbrev main_call2_v0 : Ref sig .tc := ⟨.hbm, 317, rfl⟩
abbrev main_call2_v1 : Ref sig .tc := ⟨.hbm, 318, rfl⟩
abbrev main_call2_v2 : Ref sig .tc := ⟨.hbm, 319, rfl⟩
abbrev main_call2_v3 : Ref sig .tc := ⟨.hbm, 320, rfl⟩
abbrev main_call2_v4 : Ref sig .tc := ⟨.hbm, 321, rfl⟩
abbrev main_v37 : Ref sig .tc := ⟨.hbm, 322, rfl⟩
abbrev main_v38 : Ref sig .tc := ⟨.hbm, 323, rfl⟩
abbrev main_v39 : Ref sig .tc := ⟨.hbm, 324, rfl⟩
abbrev main_call3_cst : Ref sig .tc := ⟨.hbm, 325, rfl⟩
abbrev main_call3_v0 : Ref sig .tc := ⟨.hbm, 326, rfl⟩
abbrev main_call3_cst_0 : Ref sig .tc := ⟨.hbm, 327, rfl⟩
abbrev main_call3_v1 : Ref sig .tc := ⟨.hbm, 328, rfl⟩
abbrev main_call3_v2 : Ref sig .tc := ⟨.hbm, 329, rfl⟩
abbrev main_call3_v3 : Ref sig .tc := ⟨.hbm, 330, rfl⟩
abbrev main_call3_v4 : Ref sig .tc := ⟨.hbm, 331, rfl⟩
abbrev main_call3_v5 : Ref sig .tc := ⟨.hbm, 332, rfl⟩
abbrev main_call3_v6 : Ref sig .tc := ⟨.hbm, 333, rfl⟩
abbrev main_call3_cst_1 : Ref sig .tc := ⟨.hbm, 334, rfl⟩
abbrev main_call3_v7 : Ref sig .tc := ⟨.hbm, 335, rfl⟩
abbrev main_call3_v8 : Ref sig .tc := ⟨.hbm, 336, rfl⟩
abbrev main_call3_v9 : Ref sig .tc := ⟨.hbm, 337, rfl⟩
abbrev main_call3_v10 : Ref sig .tc := ⟨.hbm, 338, rfl⟩
abbrev main_v40 : Ref sig .tc := ⟨.hbm, 339, rfl⟩
abbrev main_v41 : Ref sig .tc := ⟨.hbm, 340, rfl⟩
abbrev main_v42 : Ref sig .tc := ⟨.hbm, 341, rfl⟩
abbrev main_cst_10 : Ref sig .tc := ⟨.hbm, 342, rfl⟩
abbrev main_v43 : Ref sig .tc := ⟨.hbm, 343, rfl⟩
abbrev main_v44 : Ref sig .tc := ⟨.hbm, 344, rfl⟩

abbrev nD : Nat := 1
abbrev τ : Topo := Topo.v7x

variable {F : FTy → Type} [FloatOps F]
-- ==== Proof.Twin.lean ====
module

public import proofs.«01_k».proof.Defs
public import proofs.«01_k».proof.Proof.Gen.Kernel.Launch
public import proofs.«01_k».proof.Proof.Gen.KernelIdeal.Launch

@[expose] public section

noncomputable section

namespace Cert.Proof

open Idealize.ShloMosaic Idealize.SL.Sem

theorem d0_eq : Cert.Kernel.defs₀ (F := Bits) = Cert.KernelIdeal.defs₀ (F := Bits) := by
  refine congrArg Defs.onTc (funext fun l => funext fun x => ?_)
  match l, x with
  | 0, (t, s) => rfl
  | 1, (t, s) => rfl

theorem defs_eq : Cert.Kernel.defs (F := Bits) = Cert.KernelIdeal.defs (F := Bits) :=
  congrArg (Pipeline.defs (Cert.KernelIdeal.pcfgs (F := Bits))) d0_eq

end Cert.Proof
end
-- ==== Proof.MainBody.lean ====
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

/-! The body of the first kernel as one triple: what one grid point does to its blocks and to the carried state. -/

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The state the first kernel carries from block to block: the running maximum of the logits, the running sum of exponentials, the
    running weighted sum, the best perturbed logit so far and its column. -/
structure St (F : FTy → Type) where
  mx : Vec F S1024x1 .f32
  sm : Vec F S1024x1 .f32
  wt : Vec F S1024x1 .f32
  bv : Vec F S1024x1 .f32
  bi : Vec F S1024x1 .i32

/-- The state the first grid point starts from. -/
def St.init : St F := ⟨k0_pay51, k0_pay52, k0_pay53, k0_pay54, k0_pay55⟩

/-- The first word of the generator after the second printed part, and its partners. -/
def wA (i : grid0.Coords) : IVec S1024x1024 32 := k0_pay19 (k0_pay9 i) (k0_pay10 i) 6#32
def wB (i : grid0.Coords) : IVec S1024x1024 32 := k0_pay20 (k0_pay9 i) (k0_pay10 i) 6#32
def wC (i : grid0.Coords) : IVec S1024x1024 32 := k0_pay21 (k0_pay9 i) (k0_pay10 i) 6#32

/-- The words after the third printed part. -/
def wD (i : grid0.Coords) : IVec S1024x1024 32 := k0_pay32 (wA i) (wB i) (wC i) 19#32
def wE (i : grid0.Coords) : IVec S1024x1024 32 := k0_pay33 (wA i) (wB i) (wC i) 19#32
def wF (i : grid0.Coords) : IVec S1024x1024 32 := k0_pay34 (wA i) (wB i) (wC i) 19#32

/-- The words after the fourth printed part. -/
def wG (i : grid0.Coords) : IVec S1024x1024 32 := k0_pay45 (wD i) (wE i) (wF i) 16#32
def wH (i : grid0.Coords) : IVec S1024x1024 32 := k0_pay46 (wD i) (wE i) (wF i) 16#32

/-- The block's best perturbed logit per row. -/
def blockBest (i : grid0.Coords) (L : FVec F S1024x1024 .f32) : FVec F S1024x1 .f32 := k0_pay49 L (wG i) (wH i) k0_pay47

/-- The column of the block's best perturbed logit per row. -/
def blockCol (i : grid0.Coords) (L : FVec F S1024x1024 .f32) : IVec S1024x1 32 := k0_pay50 L (k0_pay3 i) (wG i) (wH i) k0_pay47

/-- One grid point's effect on the carried state, from the block of logits `L`. -/
def St.step (i : grid0.Coords) (L : FVec F S1024x1024 .f32) (st : St F) : St F where
  mx := k0_pay63 (k0_pay56 L st.mx)
  sm := k0_pay61 (k0_pay58 L st.mx) (k0_pay60 L st.mx) st.sm
  wt := k0_pay62 L (k0_pay57 L st.mx) (k0_pay58 L st.mx) (k0_pay59 (F := F)) st.wt
  bv := k0_pay65 (blockBest i L) st.bv st.bv
  bi := k0_pay66 (blockBest i L) (blockCol i L) st.bv st.bi

/-- The entropy the last point stores. -/
def St.ent (st : St F) : Vec F S1024x1 .f32 := k0_pay1 st.sm st.mx st.wt

/-- The first branch is taken: the grid coordinate is zero. -/
abbrev first (i : grid0.Coords) : Prop := (Scalar.cmpi .ne (Scalar.extui (Scalar.cmpi .eq (BitVec.ofNat 32 (i 0).val) 0#32)) 0#32) = 1#1

/-- The second branch is taken: the grid coordinate is the last one. -/
abbrev last (i : grid0.Coords) : Prop := k0_cond2 i = 1#1

/-- A whole buffer holding `x`, read back through the whole rectangle, is `x`. -/
theorem readAt_own {s : Shape} {e : EltTy} (a : Memref sig .tc .vmem s e) (ha : a.IsWhole) {off : Fin s.rank → ℕ}
    (inb : ∀ k, off k + s.size k ≤ s.size k) (x : Vec F s e) :
    a.view.readAt (Elt F) (Rect.unit off s.size inb).toLoadRect (ha.unread x) = x := by
  rw [View.readAt_full, ha.read_unread]

/-- A whole store read back through the whole rectangle is what was stored. -/
theorem readCov_own {s : Shape} {e : EltTy} (a : Memref sig .tc .vmem s e) {off : Fin s.rank → ℕ}
    (inb : ∀ k, off k + s.size k ≤ s.size k) (x : Vec F s e) :
    a.view.readCov (Val := Elt F) [⟨Rect.unit off s.size inb, x⟩] (Rect.unit off s.size inb).toLoadRect = x :=
  View.readCov_full a.view inb inb x []

/-- A whole buffer holding `x` is owned at `x`. -/
theorem owns_unread {s : Shape} {e : EltTy} (c : Dev nD) (a : Memref sig .tc .vmem s e) (ha : a.IsWhole) (x : Vec F s e) :
    (iprop(a.view.loc (c : Thread nD τ) ↦[a.view.set]{fullShare} ha.unread x) : sProp 𝕄)
      ⊢ iprop(∃ f', ⌜a.view.read (Elt F) f' = x⌝ ∗ (a.view.loc (c : Thread nD τ) ↦[a.view.set]{fullShare} f')) := by
  iintro H
  iexists _
  isplitr
  · ipureintro
    exact ha.read_unread x
  · iexact H

set_option maxHeartbeats 3200000 in
/-- One grid point of the first kernel: from the three input blocks and the carried state it leaves the block of logits, the
    stepped state, and at the last point the entropy and the column. -/
theorem body_run (c : Dev nD) (i : grid0.Coords) (arg1 : Memref sig .tc .vmem S1024x2048 .f32) (harg1 : arg1.IsWhole) (arg2 : Memref sig .tc .vmem S2048x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .i32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .i32) (harg11 : arg11.IsWhole)
    (x0 : Vec F S1024x2048 .f32) (x1 : Vec F S2048x1024 .f32) (x2 : Vec F S1x1024 .f32) (xi4 : Vec F S1024x1 .f32) (xi5 : Vec F S1024x1 .i32)
    (st st' : St F) (hne : ¬ (first i ∧ last i)) (hst : st' = (if first i then St.init else st).step i (k0_pay2 x0 x1 x2)) (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare xi4 ∗ owns (c : Thread nD τ) arg6 fullShare xi5
        ∗ owns (c : Thread nD τ) arg7 fullShare st.mx ∗ owns (c : Thread nD τ) arg8 fullShare st.sm ∗ owns (c : Thread nD τ) arg9 fullShare st.wt
        ∗ owns (c : Thread nD τ) arg10 fullShare st.bv ∗ owns (c : Thread nD τ) arg11 fullShare st.bi
        ∗ (iprop(owns (c : Thread nD τ) arg1 fullShare x0 ∗ owns (c : Thread nD τ) arg2 fullShare x1 ∗ owns (c : Thread nD τ) arg3 fullShare x2
            ∗ owns (c : Thread nD τ) arg4 fullShare (k0_pay2 x0 x1 x2)
            ∗ owns (c : Thread nD τ) arg5 fullShare (if last i then st'.ent else xi4) ∗ owns (c : Thread nD τ) arg6 fullShare (if last i then st'.bi else xi5)
            ∗ owns (c : Thread nD τ) arg7 fullShare st'.mx ∗ owns (c : Thread nD τ) arg8 fullShare st'.sm ∗ owns (c : Thread nD τ) arg9 fullShare st'.wt
            ∗ owns (c : Thread nD τ) arg10 fullShare st'.bv ∗ owns (c : Thread nD τ) arg11 fullShare st'.bi) -∗ K ⟨⟩))
      ⊢ wp frame (wpE (defs₀ (F := F)) Variants.none c none) E (cc0__main_kernel i arg1 harg1 arg2 harg2 arg3 harg3 arg4 harg4 arg5 harg5 arg6 harg6 arg7 harg7 arg8 harg8 arg9 harg9 arg10 harg10 arg11 harg11) K := by
  simp only [cc0__main_kernel_eq_skeleton]; unfold cc0__main_kernel_skel
  simp only [k0_part1_eq_skeleton, k0_part2_eq_skeleton, k0_part3_eq_skeleton, k0_part4_eq_skeleton, k0_part5_eq_skeleton, k0_part6_eq_skeleton]
  obtain ⟨m0, s0, t0, b0, i0⟩ := st
  have hlog : k0_pay2 x0 x1 x2 = k0_pay2 x0 x1 x2 := rfl
  conv_lhs at hlog => rw [← (readAt_own (F := F) arg1 harg1 inb_S1024x2048_S1024x2048_0_0 x0), ← (readAt_own (F := F) arg2 harg2 inb_S2048x1024_S2048x1024_0_0 x1), ← (readAt_own (F := F) arg3 harg3 inb_S1x1024_S1x1024_0_0 x2)]
  rw [← hlog] at hst
  by_cases hc0 : first i
  · have hc1 : ¬ last i := fun h => hne ⟨hc0, h⟩
    rw [if_pos hc0] at hst
    change st' = St.step i _ ⟨k0_pay51, k0_pay52, k0_pay53, k0_pay54, k0_pay55⟩ at hst
    rw [← readCov_own (F := F) arg7 inb_S1024x1_S1024x1_0_0 (k0_pay51 (F := F)), ← readCov_own (F := F) arg8 inb_S1024x1_S1024x1_0_0 (k0_pay52 (F := F)), ← readCov_own (F := F) arg9 inb_S1024x1_S1024x1_0_0 (k0_pay53 (F := F)), ← readCov_own (F := F) arg10 inb_S1024x1_S1024x1_0_0 (k0_pay54 (F := F)), ← readCov_own (F := F) arg11 inb_S1024x1_S1024x1_0_0 k0_pay55] at hst
    rw [if_neg hc1, if_neg hc1]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg1.eq_unread hf0; obtain rfl := harg2.eq_unread hf1; obtain rfl := harg3.eq_unread hf2; obtain rfl := harg5.eq_unread hf4; obtain rfl := harg6.eq_unread hf5; obtain rfl := harg7.eq_unread hfs0; obtain rfl := harg8.eq_unread hfs1; obtain rfl := harg9.eq_unread hfs2; obtain rfl := harg10.eq_unread hfs3; obtain rfl := harg11.eq_unread hfs4
    sl_exec (disch := first | sl_exact hc0 | sl_exact hc1)
    sl_step
    iapply Hk
    isplitl [H0]; · iapply (owns_unread c arg1 harg1 _) $$ H0
    isplitl [H1]; · iapply (owns_unread c arg2 harg2 _) $$ H1
    isplitl [H2]; · iapply (owns_unread c arg3 harg3 _) $$ H2
    isplitl [H3]
    · iexists _; isplitr; swap; · iexact H3
      ipureintro; exact (View.read_writes_full arg4.view _ _ _ _).trans (hlog)
    isplitl [H4]; · iapply (owns_unread c arg5 harg5 _) $$ H4
    isplitl [H5]; · iapply (owns_unread c arg6 harg6 _) $$ H5
    isplitl [HS0]
    · iexists _; isplitr; swap; · iexact HS0
      ipureintro; exact (View.read_writes_full arg7.view _ _ _ _).trans ((congrArg St.mx hst).symm)
    isplitl [HS1]
    · iexists _; isplitr; swap; · iexact HS1
      ipureintro; exact (View.read_writes_full arg8.view _ _ _ _).trans ((congrArg St.sm hst).symm)
    isplitl [HS2]
    · iexists _; isplitr; swap; · iexact HS2
      ipureintro; exact (View.read_writes_full arg9.view _ _ _ _).trans ((congrArg St.wt hst).symm)
    isplitl [HS3]
    · iexists _; isplitr; swap; · iexact HS3
      ipureintro; exact (View.read_writes_full arg10.view _ _ _ _).trans ((congrArg St.bv hst).symm)
    iexists _; isplitr; swap; · iexact HS4
    ipureintro; exact (View.read_writes_full arg11.view _ _ _ _).trans ((congrArg St.bi hst).symm)
  · rw [if_neg hc0] at hst
    rw [← (readAt_own (F := F) arg7 harg7 inb_S1024x1_S1024x1_0_0 m0), ← (readAt_own (F := F) arg8 harg8 inb_S1024x1_S1024x1_0_0 s0), ← (readAt_own (F := F) arg9 harg9 inb_S1024x1_S1024x1_0_0 t0), ← (readAt_own (F := F) arg10 harg10 inb_S1024x1_S1024x1_0_0 b0), ← (readAt_own (F := F) arg11 harg11 inb_S1024x1_S1024x1_0_0 i0)] at hst
    by_cases hc1 : last i
    · rw [if_pos hc1, if_pos hc1]
      unfold owns
      iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%fs0, %hfs0, HS0⟩, ⟨%fs1, %hfs1, HS1⟩, ⟨%fs2, %hfs2, HS2⟩, ⟨%fs3, %hfs3, HS3⟩, ⟨%fs4, %hfs4, HS4⟩, Hk⟩
      obtain rfl := harg1.eq_unread hf0; obtain rfl := harg2.eq_unread hf1; obtain rfl := harg3.eq_unread hf2; obtain rfl := harg5.eq_unread hf4; obtain rfl := harg6.eq_unread hf5; obtain rfl := harg7.eq_unread hfs0; obtain rfl := harg8.eq_unread hfs1; obtain rfl := harg9.eq_unread hfs2; obtain rfl := harg10.eq_unread hfs3; obtain rfl := harg11.eq_unread hfs4
      sl_exec (disch := first | sl_exact hc0 | sl_exact hc1)
      sl_step
      iapply Hk
      isplitl [H0]; · iapply (owns_unread c arg1 harg1 _) $$ H0
      isplitl [H1]; · iapply (owns_unread c arg2 harg2 _) $$ H1
      isplitl [H2]; · iapply (owns_unread c arg3 harg3 _) $$ H2
      isplitl [H3]
      · iexists _; isplitr; swap; · iexact H3
        ipureintro; exact (View.read_writes_full arg4.view _ _ _ _).trans (hlog)
      isplitl [H4]
      · iexists _; isplitr; swap; · iexact H4
        ipureintro
        exact (View.read_writes_full arg5.view _ _ _ _).trans (congr (congr (congrArg k0_pay1
          ((View.readCov_full arg8.view inb_S1024x1_S1024x1_0_0 inb_S1024x1_S1024x1_0_0 _ _).trans (congrArg St.sm hst).symm))
          ((View.readCov_full arg7.view inb_S1024x1_S1024x1_0_0 inb_S1024x1_S1024x1_0_0 _ _).trans (congrArg St.mx hst).symm))
          ((View.readCov_full arg9.view inb_S1024x1_S1024x1_0_0 inb_S1024x1_S1024x1_0_0 _ _).trans (congrArg St.wt hst).symm))
      isplitl [H5]
      · iexists _; isplitr; swap; · iexact H5
        ipureintro
        exact (View.read_writes_full arg6.view _ _ _ _).trans
          ((View.readCov_full arg11.view inb_S1024x1_S1024x1_0_0 inb_S1024x1_S1024x1_0_0 _ _).trans (congrArg St.bi hst).symm)
      isplitl [HS0]
      · iexists _; isplitr; swap; · iexact HS0
        ipureintro; exact (View.read_writes_full arg7.view _ _ _ _).trans ((congrArg St.mx hst).symm)
      isplitl [HS1]
      · iexists _; isplitr; swap; · iexact HS1
        ipureintro; exact (View.read_writes_full arg8.view _ _ _ _).trans ((congrArg St.sm hst).symm)
      isplitl [HS2]
      · iexists _; isplitr; swap; · iexact HS2
        ipureintro; exact (View.read_writes_full arg9.view _ _ _ _).trans ((congrArg St.wt hst).symm)
      isplitl [HS3]
      · iexists _; isplitr; swap; · iexact HS3
        ipureintro; exact (View.read_writes_full arg10.view _ _ _ _).trans ((congrArg St.bv hst).symm)
      iexists _; isplitr; swap; · iexact HS4
      ipureintro; exact (View.read_writes_full arg11.view _ _ _ _).trans ((congrArg St.bi hst).symm)
    · rw [if_neg hc1, if_neg hc1]
      unfold owns
      iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%fs0, %hfs0, HS0⟩, ⟨%fs1, %hfs1, HS1⟩, ⟨%fs2, %hfs2, HS2⟩, ⟨%fs3, %hfs3, HS3⟩, ⟨%fs4, %hfs4, HS4⟩, Hk⟩
      obtain rfl := harg1.eq_unread hf0; obtain rfl := harg2.eq_unread hf1; obtain rfl := harg3.eq_unread hf2; obtain rfl := harg5.eq_unread hf4; obtain rfl := harg6.eq_unread hf5; obtain rfl := harg7.eq_unread hfs0; obtain rfl := harg8.eq_unread hfs1; obtain rfl := harg9.eq_unread hfs2; obtain rfl := harg10.eq_unread hfs3; obtain rfl := harg11.eq_unread hfs4
      sl_exec (disch := first | sl_exact hc0 | sl_exact hc1)
      sl_step
      iapply Hk
      isplitl [H0]; · iapply (owns_unread c arg1 harg1 _) $$ H0
      isplitl [H1]; · iapply (owns_unread c arg2 harg2 _) $$ H1
      isplitl [H2]; · iapply (owns_unread c arg3 harg3 _) $$ H2
      isplitl [H3]
      · iexists _; isplitr; swap; · iexact H3
        ipureintro; exact (View.read_writes_full arg4.view _ _ _ _).trans (hlog)
      isplitl [H4]; · iapply (owns_unread c arg5 harg5 _) $$ H4
      isplitl [H5]; · iapply (owns_unread c arg6 harg6 _) $$ H5
      isplitl [HS0]
      · iexists _; isplitr; swap; · iexact HS0
        ipureintro; exact (View.read_writes_full arg7.view _ _ _ _).trans ((congrArg St.mx hst).symm)
      isplitl [HS1]
      · iexists _; isplitr; swap; · iexact HS1
        ipureintro; exact (View.read_writes_full arg8.view _ _ _ _).trans ((congrArg St.sm hst).symm)
      isplitl [HS2]
      · iexists _; isplitr; swap; · iexact HS2
        ipureintro; exact (View.read_writes_full arg9.view _ _ _ _).trans ((congrArg St.wt hst).symm)
      isplitl [HS3]
      · iexists _; isplitr; swap; · iexact HS3
        ipureintro; exact (View.read_writes_full arg10.view _ _ _ _).trans ((congrArg St.bv hst).symm)
      iexists _; isplitr; swap; · iexact HS4
      ipureintro; exact (View.read_writes_full arg11.view _ _ _ _).trans ((congrArg St.bi hst).symm)

end Cert.KernelIdeal.Own

end
-- ==== Proof.MainRegion.lean ====
module

public import proofs.«01_k».proof.Proof.MainBody
public import Idealize.ShloMosaic.Lib.Pipeline.Frame
public import Idealize.ShloMosaic.Lib.Pipeline.Regions

/-! The first kernel over its whole grid: the state after each block, the proof data of its pipeline from any entry contents,
    and the obligation of its body at every point. -/

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (V : Valuation τ sig (Elt F))

/-- The block of window `w` at point `t`, cut out of the entry contents `V`. -/
def blk0 (w : Fin cfg0.W) (t : Fin cfg0.N) : ((cfg0.win w).xblock (cfg0.grid.coords t)).Idx → Elt F (cfg0.win w).elt :=
  ((cfg0.win w).blk t).view.read (Elt F) (V (Proc.devRef .tc (Pipeline.arrRef spec0 w)))

/-- The logits the body computes at point `t`. -/
def logitsAt (t : Fin cfg0.N) : Vec F S1024x1024 .f32 := k0_pay2 (blk0 V 0 t) (blk0 V 1 t) (blk0 V 2 t)

/-- The carried state after the first `n` blocks. -/
def stAt : ℕ → St F
  | 0 => St.init
  | n + 1 => if h : n < cfg0.N then (stAt n).step (grid0.coords ⟨n, h⟩) (logitsAt V ⟨n, h⟩) else stAt n

/-- One block further. -/
theorem stAt_succ (t : Fin cfg0.N) : stAt V (t.val + 1) = (stAt V t.val).step (grid0.coords t) (logitsAt V t) := by
  rw [stAt, dif_pos t.isLt]

/-- The first branch is taken at the first point only. -/
theorem first_iff : ∀ t : Fin cfg0.N, first (grid0.coords t) ↔ t.val = 0 :=
  (fun t => by
    have ht : t.val < 32 := Nat.lt_of_lt_of_eq t.isLt N_0
    have e0 : (grid0.coords t 0).val = t.val / 1 % 32 := Pipeline.Grid.coords_val t 0 (by decide) rfl
    have hm : t.val = 0 ↔ t.val % 32 = 0 := by omega
    rw [hm]
    simp only [first, e0]
    word_cmp
   : ∀ t : Fin grid0.N, first (grid0.coords t) ↔ t.val = 0)

/-- The second branch is taken at the last point only. -/
theorem last_iff : ∀ t : Fin cfg0.N, last (grid0.coords t) ↔ t.val % 32 = 31 :=
  (fun t => by
    have ht : t.val < 32 := Nat.lt_of_lt_of_eq t.isLt N_0
    have e0 : (grid0.coords t 0).val = t.val / 1 % 32 := Pipeline.Grid.coords_val t 0 (by decide) rfl
    simp only [last, k0_cond2, e0]
    word_cmp
   : ∀ t : Fin grid0.N, last (grid0.coords t) ↔ t.val % 32 = 31)

/-- The two per-row outputs are idle exactly where the second branch is not taken. -/
theorem idle4 : ∀ t : Fin cfg0.N, ¬ last (grid0.coords t) → cfg0.idle 4 (grid0.coords t) = true := by decide +kernel
theorem idle5 : ∀ t : Fin cfg0.N, ¬ last (grid0.coords t) → cfg0.idle 5 (grid0.coords t) = true := by decide +kernel
theorem live4 : ∀ t : Fin cfg0.N, last (grid0.coords t) → cfg0.idle 4 (grid0.coords t) = false := by decide +kernel
theorem live5 : ∀ t : Fin cfg0.N, last (grid0.coords t) → cfg0.idle 5 (grid0.coords t) = false := by decide +kernel
theorem still4 : ∀ t : Fin cfg0.N, ¬ last (grid0.coords t) → (cfg0.win 4).flush t = false := by decide +kernel
theorem still5 : ∀ t : Fin cfg0.N, ¬ last (grid0.coords t) → (cfg0.win 5).flush t = false := by decide +kernel

/-- The carried buffers, whole. -/
abbrev sc0 : Memref sig .tc .vmem S1024x1 .f32 := Memref.whole cc0_scratch0
abbrev sc1 : Memref sig .tc .vmem S1024x1 .f32 := Memref.whole cc0_scratch1
abbrev sc2 : Memref sig .tc .vmem S1024x1 .f32 := Memref.whole cc0_scratch2
abbrev sc3 : Memref sig .tc .vmem S1024x1 .f32 := Memref.whole cc0_scratch3
abbrev sc4 : Memref sig .tc .vmem S1024x1 .i32 := Memref.whole cc0_scratch4

/-- The second kernel's staging buffers and the generator register, which the first kernel leaves alone. -/
def idleRest (c : Dev nD) : sProp 𝕄 :=
  iprop(((∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)) ∗ ∃ r, prngReg c r)

/-- The carried buffers at a state. -/
def holds (c : Dev nD) (st : St F) : sProp 𝕄 :=
  iprop(owns (c : Thread nD τ) sc0 fullShare st.mx ∗ owns (c : Thread nD τ) sc1 fullShare st.sm ∗ owns (c : Thread nD τ) sc2 fullShare st.wt
    ∗ owns (c : Thread nD τ) sc3 fullShare st.bv ∗ owns (c : Thread nD τ) sc4 fullShare st.bi)

/-- Before point `n` the carried buffers hold the state after `n` blocks; before the first point they hold anything. -/
def inv0 (c : Dev nD) (n : ℕ) : sProp 𝕄 :=
  iprop(∃ st : St F, ⌜n ≠ 0 → st = stAt V n⌝ ∗ holds c st ∗ idleRest c)

/-- The proof data of the first kernel's pipeline, entered with the unscoped buffers at `V`. -/
def dat0 (c : Dev nD) : Dat τ (Elt F) Unit ℕ (UR sig nD τ) ℕ cfg0 c where
  A w := V (Proc.devRef .tc (Pipeline.arrRef spec0 w))
  after w t := match w with
    | ⟨0, _⟩ => blk0 V 0 t
    | ⟨1, _⟩ => blk0 V 1 t
    | ⟨2, _⟩ => blk0 V 2 t
    | ⟨3, _⟩ => logitsAt V t
    | ⟨4, _⟩ => (stAt V (t.val + 1)).ent
    | ⟨5, _⟩ => (stAt V (t.val + 1)).bi
  Φ t := inv0 V c t.val
  q _ := fullShare
  owed _ := 0

theorem after0_0 (c : Dev nD) (t : Fin cfg0.N) : (dat0 V c).after 0 t = blk0 V 0 t := by dsimp only [dat0]
theorem after0_1 (c : Dev nD) (t : Fin cfg0.N) : (dat0 V c).after 1 t = blk0 V 1 t := by dsimp only [dat0]
theorem after0_2 (c : Dev nD) (t : Fin cfg0.N) : (dat0 V c).after 2 t = blk0 V 2 t := by dsimp only [dat0]
theorem after0_3 (c : Dev nD) (t : Fin cfg0.N) : (dat0 V c).after 3 t = logitsAt V t := by dsimp only [dat0]
theorem after0_4 (c : Dev nD) (t : Fin cfg0.N) : (dat0 V c).after 4 t = (stAt V (t.val + 1)).ent := by dsimp only [dat0]
theorem after0_5 (c : Dev nD) (t : Fin cfg0.N) : (dat0 V c).after 5 t = (stAt V (t.val + 1)).bi := by dsimp only [dat0]

/-- Each input's staging buffer holds its block at every point. -/
theorem before0_0 (c : Dev nD) (t : Fin cfg0.N) (d) : (dat0 V c).before 0 t d = blk0 V 0 t :=
  (dat0 V c).before_in_eq_fetched 0 rfl (fun _ => rfl) (fun _ _ _ => rfl) (fun t => by rw [after0_0]; rfl) t d
theorem before0_1 (c : Dev nD) (t : Fin cfg0.N) (d) : (dat0 V c).before 1 t d = blk0 V 1 t :=
  (dat0 V c).before_in_eq_fetched 1 rfl (fun _ => rfl) (fun _ _ _ => rfl) (fun t => by rw [after0_1]; rfl) t d
theorem before0_2 (c : Dev nD) (t : Fin cfg0.N) (d) : (dat0 V c).before 2 t d = blk0 V 2 t :=
  (dat0 V c).before_in_eq_fetched 2 rfl (fun _ => rfl) (fun _ _ _ => rfl) (fun t => by rw [after0_2]; rfl) t d

/-- A window that is live at a point is left at the proof data's contents. -/
theorem leaves_live (c : Dev nD) (w : Fin cfg0.W) (t : Fin cfg0.N) (h : cfg0.idle w (grid0.coords t) = false) :
    (dat0 V c).leavesExact w t = owns (c : Thread nD τ) ((cfg0.win w).stage (cfg0.slots t w)) fullShare ((dat0 V c).after w t) := by
  unfold Dat.leavesExact; rw [h]

/-- What the body is called with at a point. -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- What it returns. -/
def post0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t ∗ (dat0 V c).leavesExact 5 t)

/-- The body at any point: the inputs hold their blocks, the carried buffers the state so far, and the body moves it one block on. -/
theorem sound0 (c : Dev nD) (t : Fin cfg0.N) :
    pre0 V c t ⊢ wp frame (wpE (defs₀ (F := F)) Variants.none c none) Set.univ (bodyAt0 t) (fun _ => post0 V c t) := by
  unfold pre0 post0 bodyAt0
  simp only [before0_0, before0_1, before0_2]
  rw [show (dat0 V c).owesAt () t.succ = (dat0 V c).owesAt () t.castSucc from rfl,
    show (dat0 V c).Φ t.succ = inv0 V c (t.val + 1) from rfl, show (dat0 V c).Φ t.castSucc = inv0 V c t.val from rfl,
    leaves_live V c 0 t rfl, leaves_live V c 1 t rfl, leaves_live V c 2 t rfl, leaves_live V c 3 t rfl,
    after0_0, after0_1, after0_2, after0_3]
  have hne : ¬ (first (grid0.coords t) ∧ last (grid0.coords t)) := fun h => by
    have h0 := (first_iff t).mp h.1; have h1 := (last_iff t).mp h.2; omega
  unfold inv0 holds
  iintro ⟨⟨%st, %hst, ⟨HS0, HS1, HS2, HS3, HS4⟩, Hr⟩, Ho, ⟨%d0, H0⟩, ⟨%d1, H1⟩, ⟨%d2, H2⟩, ⟨%d3, H3⟩, ⟨%d4, H4⟩, ⟨%d5, H5⟩⟩
  have hst' : stAt V (t.val + 1) = (if first (grid0.coords t) then St.init else st).step (grid0.coords t) (k0_pay2 (blk0 V 0 t) (blk0 V 1 t) (blk0 V 2 t)) := by
    rw [stAt_succ]
    by_cases hf : first (grid0.coords t)
    · rw [if_pos hf, (first_iff t).mp hf]; rfl
    · rw [if_neg hf, hst (fun h => hf ((first_iff t).mpr h))]; rfl
  iapply (body_run c (grid0.coords t) _ _ _ _ _ _ _ _ _ _ _ _ _ _ _ _ _ _ _ _ _ _ (blk0 V 0 t) (blk0 V 1 t) (blk0 V 2 t)
    ((dat0 V c).before 4 t d4) ((dat0 V c).before 5 t d5) st (stAt V (t.val + 1)) hne hst' Set.univ _)
  isplitl [H0]; · iexact H0
  isplitl [H1]; · iexact H1
  isplitl [H2]; · iexact H2
  isplitl [H3]; · iexists _; iexact H3
  isplitl [H4]; · iexact H4
  isplitl [H5]; · iexact H5
  isplitl [HS0]; · iexact HS0
  isplitl [HS1]; · iexact HS1
  isplitl [HS2]; · iexact HS2
  isplitl [HS3]; · iexact HS3
  isplitl [HS4]; · iexact HS4
  iintro ⟨H0, H1, H2, H3, H4, H5, HS0, HS1, HS2, HS3, HS4⟩
  isplitl [HS0 HS1 HS2 HS3 HS4 Hr]
  · iexists (stAt V (t.val + 1))
    isplitr; · ipureintro; exact fun _ => rfl
    isplitl [HS0 HS1 HS2 HS3 HS4]
    · isplitl [HS0]; · iexact HS0
      isplitl [HS1]; · iexact HS1
      isplitl [HS2]; · iexact HS2
      isplitl [HS3]; · iexact HS3
      iexact HS4
    iexact Hr
  isplitl [Ho]; · iexact Ho
  isplitl [H0]; · iexact H0
  isplitl [H1]; · iexact H1
  isplitl [H2]; · iexact H2
  isplitl [H3]; · iexact H3
  by_cases hl : last (grid0.coords t)
  · rw [leaves_live V c 4 t (live4 t hl), leaves_live V c 5 t (live5 t hl), after0_4, after0_5, if_pos hl, if_pos hl]
    isplitl [H4]; · iexact H4
    iexact H5
  · rw [Dat.leavesExact_idle (dat0 V c) 4 t (idle4 t hl) (still4 t hl), Dat.leavesExact_idle (dat0 V c) 5 t (idle5 t hl) (still5 t hl), if_neg hl, if_neg hl]
    isplitl [H4]; · iexists _; iexact H4
    iexists _; iexact H5

/-- The body table's row at a point's staging buffers is the body at that point. -/
theorem row0 (t : Fin cfg0.N) : defs₀ (F := F) .tc cfg0.body (cfg0.bodyArgs t (cfg0.slots t)) = bodyAt0 t := by
  unfold defs₀; rw [Defs.onTc_tc]

/-- The body's obligation at every point. -/
theorem obligation0 (c : Dev nD) : BodyObligation (dat0 V c) (defs₀ (F := F)) Variants.none () Set.univ := fun t => by
  rw [bigSep_W0, bigSep_W0, row0]
  exact triple_restated (sound0 V c t) rfl .rfl fun _ => .rfl

/-- The scoped buffers the pipeline does not stage, with the generator register, make the invariant before the first point. -/
theorem enter0 (c : Dev nD) : iprop(Pipeline.scopedRest spec0 c ∗ ∃ r, prngReg c r) ⊢ (dat0 V c).Φ 0 := by
  rw [show (dat0 V c).Φ 0 = inv0 V c 0 from rfl, scopedRest0_eq]
  unfold inv0 holds idleRest
  simp only [owns_whole]
  iintro ⟨⟨⟨%f0, H0⟩, ⟨%f1, H1⟩, ⟨%f2, H2⟩, ⟨%f3, H3⟩, ⟨%f4, H4⟩, Hs⟩, Hr⟩
  iexists (⟨f0, f1, f2, f3, f4⟩ : St F)
  isplitr; · ipureintro; exact fun h => absurd rfl h
  isplitl [H0 H1 H2 H3 H4]
  · isplitl [H0]; · iexact H0
    isplitl [H1]; · iexact H1
    isplitl [H2]; · iexact H2
    isplitl [H3]; · iexact H3
    iexact H4
  isplitl [Hs]; · iexact Hs
  iexact Hr

/-- The invariant after the last point gives them back. -/
theorem leave0 (c : Dev nD) : (dat0 V c).Φ (Fin.last cfg0.N) ⊢ iprop(Pipeline.scopedRest spec0 c ∗ ∃ r, prngReg c r) := by
  rw [show (dat0 V c).Φ (Fin.last cfg0.N) = inv0 V c cfg0.N from rfl, scopedRest0_eq]
  unfold inv0 holds idleRest
  simp only [owns_whole]
  iintro ⟨%st, -, ⟨H0, H1, H2, H3, H4⟩, Hs, Hr⟩
  isplitl [H0 H1 H2 H3 H4 Hs]
  · isplitl [H0]; · iexists _; iexact H0
    isplitl [H1]; · iexists _; iexact H1
    isplitl [H2]; · iexists _; iexact H2
    isplitl [H3]; · iexists _; iexact H3
    isplitl [H4]; · iexists _; iexact H4
    iexact Hs
  iexact Hr

end Cert.KernelIdeal.Own

end
-- ==== Proof.OneHotRegion.lean ====
module

public import proofs.«01_k».proof.Proof.MainBody
public import Idealize.ShloMosaic.Lib.Pipeline.Frame
public import Idealize.ShloMosaic.Lib.Pipeline.Regions

/-! The second kernel over its whole grid: the proof data of its pipeline from any entry contents and the obligation of its body. -/

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

/-- The body's triple: the column words come in, the block of the one-hot matrix goes out. -/
theorem onehot_run (c : Dev nD) (i : grid1.Coords) (arg1 : Memref sig .tc .vmem S1024x1 .i32) (harg1 : arg1.IsWhole) (arg2 : Memref sig .tc .vmem S1024x2048 .f32) (harg2 : arg2.IsWhole)
    (x0 : Vec F S1024x1 .i32) (E : Set ℕ) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (k1_pay1 i x0)) -∗ K ⟨⟩))
      ⊢ wp frame (wpE (defs₀ (F := F)) Variants.none c none) E (cc1__onehot_kernel i arg1 harg1 arg2 harg2) K := by
  simp only [cc1__onehot_kernel_eq_skeleton]; unfold cc1__onehot_kernel_skel
  have hpay : k1_pay1 (F := F) i x0 = k1_pay1 i x0 := rfl
  conv_lhs at hpay => rw [← (readAt_own (F := F) arg1 harg1 inb_S1024x1_S1024x1_0_0 x0)]
  unfold owns
  iintro ⟨⟨%f0, %hf0, H0⟩, ⟨%d1, %f1, -, H1⟩, Hk⟩
  obtain rfl := harg1.eq_unread hf0
  sl_exec
  sl_step
  iapply Hk
  isplitl [H0]; · iapply (owns_unread c arg1 harg1 _) $$ H0
  iexists _; isplitr; swap; · iexact H1
  ipureintro; exact (View.read_writes_full arg2.view _ _ _ _).trans hpay

variable (V : Valuation τ sig (Elt F))

/-- The block of window `w` at point `t`, cut out of the entry contents `V`. -/
def blk1 (w : Fin cfg1.W) (t : Fin cfg1.N) : ((cfg1.win w).xblock (cfg1.grid.coords t)).Idx → Elt F (cfg1.win w).elt :=
  ((cfg1.win w).blk t).view.read (Elt F) (V (Proc.devRef .tc (Pipeline.arrRef spec1 w)))

/-- The proof data of the second kernel's pipeline, entered with the unscoped buffers at `V`. -/
def dat1 (c : Dev nD) : Dat τ (Elt F) Unit ℕ (UR sig nD τ) ℕ cfg1 c where
  A w := V (Proc.devRef .tc (Pipeline.arrRef spec1 w))
  after w t := match w with
    | ⟨0, _⟩ => blk1 V 0 t
    | ⟨1, _⟩ => k1_pay1 (grid1.coords t) (blk1 V 0 t)
  Φ t := iprop(Pipeline.scopedRest spec1 c ∗ ∃ r, prngReg c r)
  q _ := fullShare
  owed _ := 0

theorem after1_0 (c : Dev nD) (t : Fin cfg1.N) : (dat1 V c).after 0 t = blk1 V 0 t := by dsimp only [dat1]
theorem after1_1 (c : Dev nD) (t : Fin cfg1.N) : (dat1 V c).after 1 t = k1_pay1 (grid1.coords t) (blk1 V 0 t) := by dsimp only [dat1]

/-- The column words' staging buffer holds them at every point. -/
theorem before1_0 (c : Dev nD) (t : Fin cfg1.N) (d) : (dat1 V c).before 0 t d = blk1 V 0 t :=
  (dat1 V c).before_in_eq_fetched 0 rfl (fun _ => rfl) (fun _ _ _ => rfl) (fun t => by rw [after1_0]; rfl) t d

/-- Both windows are left at the proof data's contents. -/
theorem leaves_live1 (c : Dev nD) (w : Fin cfg1.W) (t : Fin cfg1.N) (h : cfg1.idle w (grid1.coords t) = false) :
    (dat1 V c).leavesExact w t = owns (c : Thread nD τ) ((cfg1.win w).stage (cfg1.slots t w)) fullShare ((dat1 V c).after w t) := by
  unfold Dat.leavesExact; rw [h]

/-- The body at any point. -/
theorem sound1 (c : Dev nD) (t : Fin cfg1.N) :
    iprop((dat1 V c).Φ t.castSucc ∗ (dat1 V c).owesAt () t.castSucc
        ∗ (∃ d, owns (c : Thread nD τ) (st1_0 t) fullShare ((dat1 V c).before 0 t d))
        ∗ (∃ d, owns (c : Thread nD τ) (st1_1 t) fullShare ((dat1 V c).before 1 t d)))
      ⊢ wp frame (wpE (defs₀ (F := F)) Variants.none c none) Set.univ (bodyAt1 t) (fun _ =>
        iprop((dat1 V c).Φ t.succ ∗ (dat1 V c).owesAt () t.succ ∗ (dat1 V c).leavesExact 0 t ∗ (dat1 V c).leavesExact 1 t)) := by
  unfold bodyAt1
  simp only [before1_0]
  rw [show (dat1 V c).owesAt () t.succ = (dat1 V c).owesAt () t.castSucc from rfl,
    show (dat1 V c).Φ t.succ = (dat1 V c).Φ t.castSucc from rfl,
    leaves_live1 V c 0 t rfl, leaves_live1 V c 1 t rfl, after1_0, after1_1]
  iintro ⟨HΦ, Ho, ⟨%d0, H0⟩, ⟨%d1, H1⟩⟩
  iapply (onehot_run c (grid1.coords t) _ _ _ _ (blk1 V 0 t) Set.univ _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body table's row at a point's staging buffers is the body at that point. -/
theorem row1 (t : Fin cfg1.N) : defs₀ (F := F) .tc cfg1.body (cfg1.bodyArgs t (cfg1.slots t)) = bodyAt1 t := by
  unfold defs₀; rw [Defs.onTc_tc]

/-- The body's obligation at every point. -/
theorem obligation1 (c : Dev nD) : BodyObligation (dat1 V c) (defs₀ (F := F)) Variants.none () Set.univ := fun t => by
  rw [bigSep_W1, bigSep_W1, row1]
  exact triple_restated (sound1 V c t) rfl .rfl fun _ => .rfl

end Cert.KernelIdeal.Own

end
-- ==== Proof.KernelRun.lean ====
module

public import proofs.«01_k».proof.Proof.MainRegion
public import proofs.«01_k».proof.Proof.OneHotRegion
public import proofs.«01_k».proof.Proof.Gen.KernelIdeal.Regions
public import Idealize.ShloMosaic.Lib.Pipeline.RegionArraysS
public import Idealize.ShloMosaic.Lib.Pipeline.FrameTail

/-! The run of the whole program: the host reshape, the two kernels, the last host reshape, and what every unscoped buffer holds
    at the end. -/

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation Seg HostSeg RegionSeg)

variable {F : FTy → Type} [FloatOps F]

local notation "𝕄" => MT nD τ sig Unit (Elt F) ℕ (UR sig nD τ) ℕ

variable (m : (ℓ : Loc nD τ sig) → Buf (Elt F) ℓ)

/-- The unscoped buffers when the first kernel starts. -/
def W1 (c : Dev nD) : Valuation τ sig (Elt F) := StableHlo.after hostOps0 (V0 m c)
/-- The unscoped buffers when the second kernel starts. -/
def W2 (c : Dev nD) : Valuation τ sig (Elt F) := Pipeline.afterRegion (dat0 (W1 m c) c) (W1 m c)
/-- The unscoped buffers when the second kernel is over. -/
def W3 (c : Dev nD) : Valuation τ sig (Elt F) := Pipeline.afterRegion (dat1 (W2 m c) c) (W2 m c)
/-- The unscoped buffers at the end. -/
def W4 (c : Dev nD) : Valuation τ sig (Elt F) := StableHlo.after hostOps2 (W3 m c)

/-- The proof data of the two pipelines. -/
def pdats : (p : Fin 2) → (c : Dev nD) → Dat τ (Elt F) Unit ℕ (UR sig nD τ) ℕ (cfgs p) c
  | ⟨0, _⟩, c => dat0 (W1 m c) c
  | ⟨1, _⟩, c => dat1 (W2 m c) c

/-- The one level index is assigned at the TensorCores' cells. -/
def lvIx (g : GSem nD τ sig) : Finset Unit := if g.1.2 = .tc then {()} else ∅
/-- Every level is zero. -/
def lv0 (_ : GSem nD τ sig) (_ : Unit) : ℕ := 0

/-- Nothing is owed. -/
abbrev debt0 : Dev nD → CellTallies nD τ sig Unit := fun _ => 0

/-- With nothing owed the levels ask nothing. -/
theorem cut (p : Fin 2) : Pipeline.LevelCut (pcfgs (F := F)) adm () lvIx lv0 p debt0 (fun _ => 0) where
  hι _ _ _ := by simp [lvIx]
  hιb _ _ _ := le_refl _
  hD _ _ _ h := absurd h (by simp)

/-- What rides beside the buffers: the core owing nothing and the generator register. -/
abbrev rides (c : Dev nD) : sProp 𝕄 :=
  iprop((∃ Wd, owes (c : Thread nD τ) (debt0 c) Wd) ∗ (∃ r, prngReg c r) ∗ emp)

/-- The first kernel as a segment, from `W1` to `W2`. -/
def region0 : RegionSeg (pcfgs (F := F)) adm (pdats m) () defs₀ Variants.none lvIx lv0 0 :=
  RegionSeg.ofHeldIn (pcfgs (F := F)) adm (pdats m) () defs₀ Variants.none lvIx lv0 0 debt0 (Pipeline.ucRefs τ sig)
    (fun c => iprop(∃ r, prngReg c r)) (fun c => iprop(∃ r, prngReg c r)) launch0.toP rfl
    (fun c => (obligation0 (W1 m c) c).loose) (fun _ _ => rfl) (fun _ => rfl) (fun c => (dat0 (W1 m c) c).share_full fun _ => rfl)
    (fun c => enter0 (W1 m c) c) (fun c => leave0 (W1 m c) c) (fun _ => 0) (cut 0) (fun _ => iprop(emp)) (W1 m) (fun _ _ => rfl)

/-- The second kernel as a segment, from `W2` to `W3`. -/
def region1 : RegionSeg (pcfgs (F := F)) adm (pdats m) () defs₀ Variants.none lvIx lv0 1 :=
  RegionSeg.ofHeldIn (pcfgs (F := F)) adm (pdats m) () defs₀ Variants.none lvIx lv0 1 debt0 (Pipeline.ucRefs τ sig)
    (fun c => iprop(∃ r, prngReg c r)) (fun c => iprop(∃ r, prngReg c r)) launch1.toP rfl
    (fun c => (obligation1 (W2 m c) c).loose) (fun _ _ => rfl) (fun _ => rfl) (fun c => (dat1 (W2 m c) c).share_full fun _ => rfl)
    (fun c => .rfl) (fun c => .rfl) (fun _ => 0) (cut 1) (fun _ => iprop(emp)) (W2 m) (fun _ _ => rfl)

/-- The host reshape before the kernels as a segment. -/
def host0 : HostSeg (Ix := Unit) (Name := ℕ) (U := UR sig nD τ) (Lvl := ℕ) (pcfgs (F := F)) defs₀ Variants.none lvIx lv0 :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) rides

/-- The host reshape after the kernels as a segment. -/
def host1 : HostSeg (Ix := Unit) (Name := ℕ) (U := UR sig nD τ) (Lvl := ℕ) (pcfgs (F := F)) defs₀ Variants.none lvIx lv0 :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W3 m) rides

/-- The program as segments. -/
def parts : List (Seg (pcfgs (F := F)) adm (pdats m) () defs₀ Variants.none lvIx lv0) :=
  [.host (host0 m), .region (region0 m), .region (region1 m), .host (host1 m)]

/-- Each kernel's arrays are unscoped buffers. -/
theorem arrs0 : Pipeline.arrRefs (τ := τ) (pcfgs (F := F) 0).spec ⊆ Pipeline.ucRefs τ sig :=
  Pipeline.arrRefs_sub_ucRefs spec0 (by decide)
theorem arrs1 : Pipeline.arrRefs (τ := τ) (pcfgs (F := F) 1).spec ⊆ Pipeline.ucRefs τ sig :=
  Pipeline.arrRefs_sub_ucRefs spec1 (by decide)

/-- Kernel 0 is entered from the unscoped buffers at `W1` and left with them at `W2`. -/
theorem enters0 (c : Dev nD) : iprop(StableHlo.held (c : Thread nD τ) (Pipeline.ucRefs τ sig) (W1 m c) ∗ rides c) ⊢ (region0 m).pre c := by
  unfold region0; exact RegionSeg.ofHeldIn_pre (pcs := pcfgs (F := F)) (a := adm) (pdats := pdats m) (ι := ()) (defs₀ := defs₀) (𝒱₀ := Variants.none) (L := lvIx) (lv := lv0) (D := debt0) (S := Pipeline.ucRefs τ sig) (X := fun c => iprop(∃ r, prngReg c r)) (Y := fun c => iprop(∃ r, prngReg c r)) (R := fun _ => iprop(emp)) (W := W1 m) arrs0 c
theorem leaves0 (c : Dev nD) : (region0 m).post c ⊢ iprop(StableHlo.held (c : Thread nD τ) (Pipeline.ucRefs τ sig) (W2 m c) ∗ rides c) := by
  unfold region0 W2; exact RegionSeg.ofHeldIn_post (pcs := pcfgs (F := F)) (a := adm) (pdats := pdats m) (ι := ()) (defs₀ := defs₀) (𝒱₀ := Variants.none) (L := lvIx) (lv := lv0) (D := debt0) (S := Pipeline.ucRefs τ sig) (X := fun c => iprop(∃ r, prngReg c r)) (Y := fun c => iprop(∃ r, prngReg c r)) (R := fun _ => iprop(emp)) (W := W1 m) arrs0 c
/-- Kernel 1 is entered from the unscoped buffers at `W2` and left with them at `W3`. -/
theorem enters1 (c : Dev nD) : iprop(StableHlo.held (c : Thread nD τ) (Pipeline.ucRefs τ sig) (W2 m c) ∗ rides c) ⊢ (region1 m).pre c := by
  unfold region1; exact RegionSeg.ofHeldIn_pre (pcs := pcfgs (F := F)) (a := adm) (pdats := pdats m) (ι := ()) (defs₀ := defs₀) (𝒱₀ := Variants.none) (L := lvIx) (lv := lv0) (D := debt0) (S := Pipeline.ucRefs τ sig) (X := fun c => iprop(∃ r, prngReg c r)) (Y := fun c => iprop(∃ r, prngReg c r)) (R := fun _ => iprop(emp)) (W := W2 m) arrs1 c
theorem leaves1 (c : Dev nD) : (region1 m).post c ⊢ iprop(StableHlo.held (c : Thread nD τ) (Pipeline.ucRefs τ sig) (W3 m c) ∗ rides c) := by
  unfold region1 W3; exact RegionSeg.ofHeldIn_post (pcs := pcfgs (F := F)) (a := adm) (pdats := pdats m) (ι := ()) (defs₀ := defs₀) (𝒱₀ := Variants.none) (L := lvIx) (lv := lv0) (D := debt0) (S := Pipeline.ucRefs τ sig) (X := fun c => iprop(∃ r, prngReg c r)) (Y := fun c => iprop(∃ r, prngReg c r)) (R := fun _ => iprop(emp)) (W := W2 m) arrs1 c

set_option backward.isDefEq.respectTransparency.types false in
/-- Every weakly fair execution from memory `m` with zero counters ends with each unscoped buffer at `W4` and every counter at zero. -/
theorem kernel_run (ρ : Dev nD → PrngReg) :
    θ_run defs (onTc (τ := τ) (main (F := F))) ⟨m, fun _ => 0, ρ⟩ (fun r =>
      (∀ (c : Dev nD) (b : Ref sig .tc), b.isScoped = false → r.2.mem ((c.tc : Thread nD τ).loc b) = W4 m c (Proc.devRef .tc b))
      ∧ r.2.sem = fun _ => 0) := by
  refine Pipeline.θ_run_regions_kit_dev_sems (pcfgs (F := F)) adm (pdats m) () cellOf_inj emb₁ defs₀ Variants.none lvIx lv0 m ρ main
    (fun _ => parts m)
    (fun c Q => by
      rewrite [main_chain c, Seg.run_eq_chain,
        show (parts m).map Seg.prog = [
          StableHlo.seq hostOps0,
          Prog.lift (.customCall (Pipeline.entry 0) ()),
          Prog.lift (.customCall (Pipeline.entry 1) ()),
          StableHlo.seq hostOps2 ] from rfl]
      dsimp (config := { failIfUnchanged := false }) only
      exact .rfl)
    (fun c => by simp only [parts, Seg.pipes_host, Seg.pipes_region, Seg.pipes_nil]; decide)
    0 (fun g hg => by simp [lvIx, hg]) (fun _ => iprop(emp)) (initOf (Pipeline.cells cfgs cellOf_inj) (Pipeline.launchToks cfgs cellOf_inj))
    (by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ rides c))
    (Tₙ := fun c => StableHlo.held (c : Thread nD τ) (Pipeline.ucRefs τ sig) (W4 m c))
    (hch := fun c => ⟨.rfl, enters0 m c, (leaves0 m c).trans (enters1 m c), leaves1 m c, sep_mono .rfl (by
      iintro ⟨HO, -, -⟩; iexact HO)⟩)
    (hinit := ?_)
    (QY := fun c s => ∀ b ∈ Pipeline.ucRefs τ sig, s.mem ((c.tc : Thread nD τ).1, b) = W4 m c b)
    (hfin := fun c s' => ?_)
    (hQ := fun _ h hz => ⟨fun c b hb => h c (Proc.devRef .tc b) (Pipeline.devRef_mem_ucRefs hb),
      funext fun g => hz g (.inr (regions_no_unscoped g.2))⟩)
  · refine Pipeline.initEach lvIx lv0 fun c => ?_
    rw [show unscopedBufs c (fun b => m ((c.tc : Thread nD τ).loc b)) = StableHlo.held (c.tc : Thread nD τ) (Pipeline.ucRefs τ sig) (V0 m c)
          from Pipeline.unscopedBufs_held (Ix := Unit) (Name := ℕ) (U := UR sig nD τ) (Lvl := ℕ) c (V0 m c)]
    iintro ⟨⟨Hh, -, HO, -, Hp, -⟩, -⟩
    imodintro
    isplitl [Hh]; · iexact Hh
    isplitl [HO]; · iexists _; iexact HO
    isplitl [Hp]; · iexists _; iexact Hp
    iempintro
  · unfold StableHlo.held
    iintro ⟨Hh, HSI⟩
    ihave Hr := (pointsTo_read_all (Pipeline.ucRefs τ sig) (fun b => ((c.tc : Thread nD τ).1, b)) (W4 m c) s') $$ [Hh HSI]
    · isplitl [Hh] <;> iassumption
    imodintro; iexact Hr

/-- A buffer no host reshape writes and no kernel puts out ends as launched. -/
theorem W4_kept (c : Dev nD) (r : Ref sig .tc) (h2 : r ∉ hostOps2_W) (h0 : r ∉ hostOps0_W)
    (k1 : ∀ w, Pipeline.arrRef spec1 w = r → (cfg1.win w).isOut = false) (k0 : ∀ w, Pipeline.arrRef spec0 w = r → (cfg0.win w).isOut = false) :
    W4 m c (Proc.devRef .tc r) = m ((c.tc : Thread nD τ).loc r) :=
  (StableHlo.after_of_writes_sub hostOps2 _ hostOps2_writes h2).trans <|
    (Pipeline.afterRegion_keeps (dat1 (W2 m c) c) (W2 m c) winFacts1.arr_inj (fun _ => rfl) r k1).trans <|
    (Pipeline.afterRegion_keeps (dat0 (W1 m c) c) (W1 m c) winFacts0.arr_inj (fun _ => rfl) r k0).trans <|
    (StableHlo.after_of_writes_sub hostOps0 _ hostOps0_writes h0).trans rfl

theorem W4_arg0 (c : Dev nD) : W4 m c (Proc.devRef .tc main_arg0) = m ((c.tc : Thread nD τ).loc main_arg0) :=
  W4_kept m c main_arg0 (by decide) (by decide) (by decide) (by decide)
theorem W4_arg1 (c : Dev nD) : W4 m c (Proc.devRef .tc main_arg1) = m ((c.tc : Thread nD τ).loc main_arg1) :=
  W4_kept m c main_arg1 (by decide) (by decide) (by decide) (by decide)
theorem W4_arg2 (c : Dev nD) : W4 m c (Proc.devRef .tc main_arg2) = m ((c.tc : Thread nD τ).loc main_arg2) :=
  W4_kept m c main_arg2 (by decide) (by decide) (by decide) (by decide)

/-- The arguments end as launched and every counter ends at zero. -/
theorem frame (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨(h.1 c main_arg0 rfl).trans (W4_arg0 m c), (h.1 c main_arg1 rfl).trans (W4_arg1 m c),
    (h.1 c main_arg2 rfl).trans (W4_arg2 m c)⟩, h.2⟩) (kernel_run m ρ)

/-- The logits' array at the end is what the first kernel's write-backs leave. -/
theorem W4_logits (c : Dev nD) : W4 m c (Proc.devRef .tc main_v1_0) = (dat0 (W1 m c) c).arrAt 3 cfg0.N :=
  (StableHlo.after_of_writes_sub hostOps2 _ hostOps2_writes (by decide)).trans <|
    (Pipeline.afterRegion_keeps (dat1 (W2 m c) c) (W2 m c) winFacts1.arr_inj (fun _ => rfl) main_v1_0 (by decide)).trans <|
    Pipeline.afterRegion_arr (dat0 (W1 m c) c) (W1 m c) winFacts0.arr_inj 3

/-- The columns' array when the second kernel starts is what the first kernel's write-back leaves. -/
theorem W2_cols (c : Dev nD) : W2 m c (Proc.devRef .tc main_v1_2) = (dat0 (W1 m c) c).arrAt 5 cfg0.N :=
  Pipeline.afterRegion_arr (dat0 (W1 m c) c) (W1 m c) winFacts0.arr_inj 5

/-- The one-hot array at the end is what the second kernel's write-backs leave. -/
theorem W4_sample (c : Dev nD) : W4 m c (Proc.devRef .tc main_v2) = (dat1 (W2 m c) c).arrAt 1 cfg1.N :=
  (StableHlo.after_of_writes_sub hostOps2 _ hostOps2_writes (by decide)).trans <|
    Pipeline.afterRegion_arr (dat1 (W2 m c) c) (W2 m c) winFacts1.arr_inj 1

/-- The entropies' column when the last reshape starts is what the first kernel's write-back leaves. -/
theorem W3_ent (c : Dev nD) : W3 m c (Proc.devRef .tc main_v1_1) = (dat0 (W1 m c) c).arrAt 4 cfg0.N :=
  (Pipeline.afterRegion_keeps (dat1 (W2 m c) c) (W2 m c) winFacts1.arr_inj (fun _ => rfl) main_v1_1 (by decide)).trans <|
    Pipeline.afterRegion_arr (dat0 (W1 m c) c) (W1 m c) winFacts0.arr_inj 4

end Cert.KernelIdeal.Own

end
-- ==== Proof.Lines.lean ====
/-
  Straight lines of host operations, read by equations. Every operation of a printed host program writes a buffer of
  its own, and the buffers are numbered in the order they are written. So a value, once written, stays; and what a line
  leaves is known from one equation per operation between the FINAL contents: the operation's function of its operands'
  final contents. `Line n p n' E` says that of a program `p` whose operations write the buffers from `n` up to `n'`:
  `E` holds of every contents that agree with the line's below `n'`.
-/
module

public import Idealize.ShloMosaic.Lib.StableHlo.Run

@[expose] public section

noncomputable section

namespace Cert.Proof.Lines

open Idealize.ShloMosaic Idealize.ShloMosaic.TcCoe Idealize.ShloMosaic.StableHlo Idealize.SL.Sem

variable {nD : ℕ} {τ : Topo} {sig : RefSig} {Val : EltTy → Type} [∀ e, Nonempty (Val e)] {Λ : Labels}

/-- A buffer's number among those of its space. -/
def lvl (r : Ref sig .tc) : ℕ := r.idx.val

/-- A typed reference's contents in a valuation, at the value's type. -/
def rd {T : BufTy} (W : Valuation τ sig Val) (x : TRef sig T) : T.Contents Val :=
  x.ofBuf (W (Proc.devRef .tc x.ref))

/-- At a literal reference that is the buffer's contents. -/
theorem rd_of {r : Ref sig .tc} (h1 h2) (W : Valuation τ sig Val) :
    rd W (⟨r, rfl, h1, h2⟩ : TRef sig r.ty) = W (Proc.devRef .tc r) := rfl

/-- The program is a line of operations that write only buffers numbered from `n` on, and of every contents that agree
    with the line's on the buffers below `n'`, `E` holds. -/
def Line (n : ℕ) (p : Prog (TpuEff nD τ sig Val Λ .tc) PUnit) (n' : ℕ) (E : Valuation τ sig Val → Prop) : Prop :=
  n ≤ n' ∧ ∃ ops : List (HloOp τ sig Val), p = seq ops ∧ (∀ op ∈ ops, op.bufs ⊆ tcRefs τ sig) ∧ (∀ op ∈ ops, op.fresh = ∅)
    ∧ (∀ V, ∀ r : Ref sig .tc, lvl r < n → after ops V (Proc.devRef .tc r) = V (Proc.devRef .tc r))
    ∧ ∀ V W : Valuation τ sig Val, (∀ r : Ref sig .tc, lvl r < n' → W (Proc.devRef .tc r) = after ops V (Proc.devRef .tc r)) → E W

/-- What holds may be weakened. -/
theorem Line.mono {n n' : ℕ} {p : Prog (TpuEff nD τ sig Val Λ .tc) PUnit} {E E' : Valuation τ sig Val → Prop}
    (h : Line n p n' E) (hE : ∀ W, E W → E' W) : Line n p n' E' := by
  obtain ⟨hn, ops, h1, h2, h3, h4, h5⟩ := h
  exact ⟨hn, ops, h1, h2, h3, h4, fun V W hW => hE W (h5 V W hW)⟩

/-- The empty line. -/
theorem Line.ret {n : ℕ} : Line (nD := nD) (Λ := Λ) n (pure ⟨⟩ : Prog (TpuEff nD τ sig Val Λ .tc) PUnit) n fun _ => True :=
  ⟨le_rfl, [], rfl, by simp, by simp, fun _ _ _ => rfl, fun _ _ _ => trivial⟩

/-- Two lines one after the other. -/
theorem Line.bind {n n' n'' : ℕ} {p q : Prog (TpuEff nD τ sig Val Λ .tc) PUnit} {E E' : Valuation τ sig Val → Prop}
    (hp : Line n p n' E) (hq : Line n' q n'' E') : Line n (p >>= fun _ => q) n'' fun W => E W ∧ E' W := by
  obtain ⟨hn, ops, h1, h2, h3, h4, h5⟩ := hp
  obtain ⟨hn', ops', h1', h2', h3', h4', h5'⟩ := hq
  have happ : ∀ (l : List (HloOp τ sig Val)) (V : Valuation τ sig Val), after (l ++ ops') V = after ops' (after l V) := by
    intro l; induction l with
    | nil => intro V; rfl
    | cons o l ih => intro V; exact ih _
  refine ⟨hn.trans hn', ops ++ ops', by rw [seq_append, h1, h1'], ?_, ?_, ?_, ?_⟩
  · intro op ho; rcases List.mem_append.1 ho with ho | ho
    exacts [h2 op ho, h2' op ho]
  · intro op ho; rcases List.mem_append.1 ho with ho | ho
    exacts [h3 op ho, h3' op ho]
  · intro V r hr; rw [happ, h4' _ r (hr.trans_le hn), h4 V r hr]
  · intro V W hW
    refine ⟨h5 V W fun r hr => ?_, h5' (after ops V) W fun r hr => ?_⟩
    · rw [hW r (hr.trans_le hn'), happ, h4' _ r hr]
    · rw [hW r hr, happ]

/-- A line whose first operation writes the one buffer `y`, numbered `n`, a value `v` of the contents before that
    depends only on buffers numbered below `n`. -/
theorem Line.op {n n' : ℕ} {op : HloOp τ sig Val} {k : Prog (TpuEff nD τ sig Val Λ .tc) PUnit}
    {E : Valuation τ sig Val → Prop} (y : Ref sig .tc) (v : Valuation τ sig Val → y.ty.Contents Val)
    (hsub : op.bufs ⊆ tcRefs τ sig) (hfr : op.fresh = ∅)
    (hres : ∀ V, op.result V (Proc.devRef .tc y) = v V)
    (hne : ∀ V, ∀ r : Ref sig .tc, r ≠ y → op.result V (Proc.devRef .tc r) = V (Proc.devRef .tc r))
    (hy : lvl y = n)
    (hv : ∀ V W : Valuation τ sig Val, (∀ r : Ref sig .tc, lvl r < n → W (Proc.devRef .tc r) = V (Proc.devRef .tc r)) → v W = v V)
    (hk : Line (n + 1) k n' E) :
    Line n ((hlo rfl op fun _ => .ret (⟨⟩ : PUnit)) >>= fun _ => k) n' fun W => W (Proc.devRef .tc y) = v W ∧ E W := by
  obtain ⟨hn, ops, h1, h2, h3, h4, h5⟩ := hk
  have hlow : ∀ V, ∀ r : Ref sig .tc, lvl r < n → after ops (op.result V) (Proc.devRef .tc r) = V (Proc.devRef .tc r) := by
    intro V r hr
    rw [h4 _ r (by omega), hne V r (by rintro rfl; omega)]
  refine ⟨by omega, op :: ops, by rw [h1]; rfl, ?_, ?_, hlow, ?_⟩
  · intro o ho; rcases List.mem_cons.1 ho with rfl | ho
    exacts [hsub, h2 o ho]
  · intro o ho; rcases List.mem_cons.1 ho with rfl | ho
    exacts [hfr, h3 o ho]
  · intro V W hW
    refine ⟨?_, h5 (op.result V) W hW⟩
    rw [hW y (by omega), after_cons, h4 _ y (by omega), hres V]
    exact (hv V W fun r hr => by rw [hW r (by omega), after_cons, hlow V r hr]).symm

variable {x a b c e y : Ref sig .tc}

/-- A line that starts with a constant. -/
theorem Line.nullary {n n' : ℕ} {v : y.ty.Contents Val} {hy} {k : Prog (TpuEff nD τ sig Val Λ .tc) PUnit}
    {E : Valuation τ sig Val → Prop} (hk : Line (n + 1) k n' E) (ny : lvl y = n := by rfl) :
    Line n ((hlo rfl (StableHlo.nullary y v hy) fun _ => .ret (⟨⟩ : PUnit)) >>= fun _ => k) n'
      fun W => W (Proc.devRef .tc y) = v ∧ E W :=
  Line.op y (fun _ => v) (nullary_bufs_sub ..) rfl (fun V => nullary_result' ..) (fun V r hr => nullary_result_ne' _ _ _ hr) ny
    (fun _ _ _ => rfl) hk

/-- A line that starts with an operation of one operand. -/
theorem Line.unary {n n' : ℕ} {f : x.ty.Contents Val → y.ty.Contents Val} {hx hy} {k : Prog (TpuEff nD τ sig Val Λ .tc) PUnit}
    {E : Valuation τ sig Val → Prop} (hk : Line (n + 1) k n' E) (ny : lvl y = n := by rfl) (nx : lvl x < n := by decide) :
    Line n ((hlo rfl (StableHlo.unary x y f hx hy) fun _ => .ret (⟨⟩ : PUnit)) >>= fun _ => k) n'
      fun W => W (Proc.devRef .tc y) = f (W (Proc.devRef .tc x)) ∧ E W :=
  Line.op y (fun W => f (W (Proc.devRef .tc x))) (unary_bufs_sub ..) rfl (fun V => unary_result' ..) (fun V r hr => unary_result_ne' _ _ _ _ hr) ny
    (fun V W h => by rw [h x nx]) hk

/-- A line that starts with an operation of two operands. -/
theorem Line.binary {n n' : ℕ} {f : a.ty.Contents Val → b.ty.Contents Val → y.ty.Contents Val} {ha hb hy}
    {k : Prog (TpuEff nD τ sig Val Λ .tc) PUnit}
    {E : Valuation τ sig Val → Prop} (hk : Line (n + 1) k n' E) (ny : lvl y = n := by rfl) (na : lvl a < n := by decide)
    (nb : lvl b < n := by decide) :
    Line n ((hlo rfl (StableHlo.binary a b y f ha hb hy) fun _ => .ret (⟨⟩ : PUnit)) >>= fun _ => k) n'
      fun W => W (Proc.devRef .tc y) = f (W (Proc.devRef .tc a)) (W (Proc.devRef .tc b)) ∧ E W :=
  Line.op y (fun W => f (W (Proc.devRef .tc a)) (W (Proc.devRef .tc b))) (binary_bufs_sub ..) rfl (fun V => binary_result' ..)
    (fun V r hr => binary_result_ne' _ _ _ _ _ hr) ny
    (fun V W h => by rw [h a na, h b nb]) hk

/-- A line that starts with an operation of four operands. -/
theorem Line.quaternary {n n' : ℕ}
    {f : a.ty.Contents Val → b.ty.Contents Val → c.ty.Contents Val → e.ty.Contents Val → y.ty.Contents Val} {ha hb hc he hy}
    {k : Prog (TpuEff nD τ sig Val Λ .tc) PUnit}
    {E : Valuation τ sig Val → Prop} (hk : Line (n + 1) k n' E) (ny : lvl y = n := by rfl) (na : lvl a < n := by decide)
    (nb : lvl b < n := by decide) (nc : lvl c < n := by decide) (ne : lvl e < n := by decide) :
    Line n ((hlo rfl (StableHlo.quaternary a b c e y f ha hb hc he hy) fun _ => .ret (⟨⟩ : PUnit)) >>= fun _ => k) n'
      fun W => W (Proc.devRef .tc y)
        = f (W (Proc.devRef .tc a)) (W (Proc.devRef .tc b)) (W (Proc.devRef .tc c)) (W (Proc.devRef .tc e)) ∧ E W :=
  Line.op y (fun W => f (W (Proc.devRef .tc a)) (W (Proc.devRef .tc b)) (W (Proc.devRef .tc c)) (W (Proc.devRef .tc e)))
    (quaternary_bufs_sub ..) rfl (fun V => quaternary_result' ..)
    (fun V r hr => quaternary_result_ne' _ _ _ _ _ _ _ hr) ny
    (fun V W h => by rw [h a na, h b nb, h c nc, h e ne]) hk

/-- A line that starts with a reshape. -/
theorem Line.reshape {n n' : ℕ} {he : x.ty.elt = y.ty.elt} {hn hx hy} {k : Prog (TpuEff nD τ sig Val Λ .tc) PUnit}
    {E : Valuation τ sig Val → Prop} (hk : Line (n + 1) k n' E) (ny : lvl y = n := by rfl) (nx : lvl x < n := by decide) :
    Line n ((hlo rfl (StableHlo.reshape (Val := Val) x y he hn hx hy) fun _ => .ret (⟨⟩ : PUnit)) >>= fun _ => k) n'
      fun W => W (Proc.devRef .tc y) = (fun i => he ▸ shapeCast y.ty.shape (W (Proc.devRef .tc x)) hn i) ∧ E W :=
  Line.op y (fun W => fun i => he ▸ shapeCast y.ty.shape (W (Proc.devRef .tc x)) hn i) (reshape_bufs_sub ..) rfl
    (fun V => reshape_result' ..) (fun V r hr => reshape_result_ne' (h := hr) ..) ny
    (fun V W h => by rw [h x nx]) hk

end Cert.Proof.Lines

end
-- ==== Proof.Threefry.lean ====
/-
  The words of the reference's random bits. `mix s` is one round of the threefry-2x32 hash on a pair of words, rotating by
  `s`; `inject` adds a pair of key words and the round count; `threefry` is the twenty rounds with the key schedule
  between. The printed hash runs these over whole arrays, one operation at a time: `round_line` and `inject_line` read nine
  and seven of its operations as one round and one injection at every element.
-/
module

public import proofs.«01_k».proof.Proof.Lines
public import proofs.«01_k».proof.Proof.Gen.ReferenceIdeal

@[expose] public section

noncomputable section

namespace Cert.Proof.Threefry

open Idealize.ShloMosaic Idealize.ShloMosaic.TcCoe Idealize.ShloMosaic.StableHlo Idealize.SL.Sem Cert.Proof.Lines

/-- One round: the sum of the words, and the second word rotated left by `s` against that sum. -/
def mix (s : BitVec 32) (p : BitVec 32 × BitVec 32) : BitVec 32 × BitVec 32 :=
  (p.1 + p.2, (p.1 + p.2) ^^^ ((p.2 <<< s) ||| (p.2 >>> (32#32 - s))))

/-- A key injection: a key word onto each word, and the count onto the second. -/
def inject (k₁ k₂ n : BitVec 32) (p : BitVec 32 × BitVec 32) : BitVec 32 × BitVec 32 :=
  (p.1 + k₁, p.2 + k₂ + n)

/-- The four rounds of an even group. -/
def four (p : BitVec 32 × BitVec 32) : BitVec 32 × BitVec 32 := mix 6#32 (mix 26#32 (mix 15#32 (mix 13#32 p)))

/-- The four rounds of an odd group. -/
def four' (p : BitVec 32 × BitVec 32) : BitVec 32 × BitVec 32 := mix 24#32 (mix 16#32 (mix 29#32 (mix 17#32 p)))

/-- The hash of a pair of counter words under the key `(k₁, k₂)`. -/
def threefry (k₁ k₂ : BitVec 32) (p : BitVec 32 × BitVec 32) : BitVec 32 × BitVec 32 :=
  let k₃ := k₁ ^^^ k₂ ^^^ 466688986#32
  inject k₃ k₁ 5#32 (four (inject k₂ k₃ 4#32 (four' (inject k₁ k₂ 3#32 (four (inject k₃ k₁ 2#32 (four'
    (inject k₂ k₃ 1#32 (four (p.1 + k₁, p.2 + k₂))))))))))

variable {F : FTy → Type} [FloatOps F]
variable {nD : ℕ} {τ : Topo} {sig : RefSig} {Λ : Labels} {s s0 : Shape}

/-- A host shift left by an amount below the width is the words' shift. -/
theorem host_shli (x y : BitVec 32) (h : y.toNat < 32) : IntOp.shli .host x y = x <<< y := if_pos h

/-- A host shift right by an amount below the width is the words' shift. -/
theorem host_shrui (x y : BitVec 32) (h : y.toNat < 32) : IntOp.shrui .host x y = x >>> y := if_pos h

/-- Nine operations of the hash are one round at every element. -/
theorem round_line {n n' : ℕ} {x y x' l r o y' b₁ b₂ : TRef sig ⟨s, .i32⟩} {c₁ c₂ : TRef sig ⟨s0, .i32⟩} {m m' : BitVec 32}
    {dims h1 h2} {k : Prog (TpuEff nD τ sig (Elt F) Λ .tc) PUnit} {E : Valuation τ sig (Elt F) → Prop}
    (hk : Line (n + 9) k n' E)
    (hm : m.toNat < 32 ∧ m' = 32#32 - m ∧ m'.toNat < 32 := by decide)
    (hl : lvl x'.ref = n ∧ lvl c₁.ref = n + 1 ∧ lvl b₁.ref = n + 2 ∧ lvl l.ref = n + 3 ∧ lvl c₂.ref = n + 4
      ∧ lvl b₂.ref = n + 5 ∧ lvl r.ref = n + 6 ∧ lvl o.ref = n + 7 ∧ lvl y'.ref = n + 8 ∧ lvl x.ref < n ∧ lvl y.ref < n := by decide) :
    Line n (do
      hlo rfl (TRef.binary x y x' addi) (fun _ => .ret ⟨⟩)
      hlo rfl (TRef.nullary c₁ (constantI s0 32 m)) (fun _ => .ret ⟨⟩)
      hlo rfl (TRef.unary c₁ b₁ (broadcastInDim s dims h1)) (fun _ => .ret ⟨⟩)
      hlo rfl (TRef.binary y b₁ l Host.shli) (fun _ => .ret ⟨⟩)
      hlo rfl (TRef.nullary c₂ (constantI s0 32 m')) (fun _ => .ret ⟨⟩)
      hlo rfl (TRef.unary c₂ b₂ (broadcastInDim s dims h2)) (fun _ => .ret ⟨⟩)
      hlo rfl (TRef.binary y b₂ r Host.shrui) (fun _ => .ret ⟨⟩)
      hlo rfl (TRef.binary l r o ori) (fun _ => .ret ⟨⟩)
      hlo rfl (TRef.binary x' o y' xori) (fun _ => .ret ⟨⟩)
      k) n' (fun W => (∀ i, (rd W x' i, rd W y' i) = mix m (rd W x i, rd W y i)) ∧ E W) := by
  obtain ⟨hm1, hm2, hm3⟩ := hm
  obtain ⟨l0, l1, l2, l3, l4, l5, l6, l7, l8, l9, l10⟩ := hl
  refine (Line.binary (Line.nullary (Line.unary (Line.binary (Line.nullary (Line.unary (Line.binary (Line.binary (Line.binary hk
    ?_ ?_ ?_) ?_ ?_ ?_) ?_ ?_ ?_) ?_ ?_) ?_) ?_ ?_ ?_) ?_ ?_) ?_) ?_ ?_ ?_).mono ?_
  rotate_right
  · rintro W ⟨q0, q1, q2, q3, q4, q5, q6, q7, q8, hE⟩
    refine ⟨fun i => ?_, hE⟩
    have e0 : rd W x' = addi (rd W x) (rd W y) := by unfold rd; rw [q0]; simp
    have e1 : rd W c₁ = constantI s0 32 m := by unfold rd; rw [q1]; simp
    have e2 : rd W b₁ = broadcastInDim s dims h1 (rd W c₁) := by unfold rd; rw [q2]; simp
    have e3 : rd W l = Host.shli (rd W y) (rd W b₁) := by unfold rd; rw [q3]; simp
    have e4 : rd W c₂ = constantI s0 32 m' := by unfold rd; rw [q4]; simp
    have e5 : rd W b₂ = broadcastInDim s dims h2 (rd W c₂) := by unfold rd; rw [q5]; simp
    have e6 : rd W r = Host.shrui (rd W y) (rd W b₂) := by unfold rd; rw [q6]; simp
    have e7 : rd W o = ori (rd W l) (rd W r) := by unfold rd; rw [q7]; simp
    have e8 : rd W y' = xori (rd W x') (rd W o) := by unfold rd; rw [q8]; simp
    have f3 : rd W l i = rd W y i <<< m := by rw [e3, e2, e1]; exact host_shli _ _ hm1
    have f6 : rd W r i = rd W y i >>> (32#32 - m) := by rw [← hm2, e6, e5, e4]; exact host_shrui _ _ hm3
    have f8 : rd W y' i = rd W x' i ^^^ (rd W l i ||| rd W r i) := by rw [e8, e7]; rfl
    have f0 : rd W x' i = rd W x i + rd W y i := by rw [e0]; rfl
    rw [f8, f3, f6, f0]; rfl
  all_goals omega

/-- Seven operations of the hash are one key injection at every element. -/
theorem inject_line {n n' : ℕ} {x y x' z y' b₁ b₂ b₃ : TRef sig ⟨s, .i32⟩} {k₁ k₂ c : TRef sig ⟨s0, .i32⟩} {m : BitVec 32}
    {dims h1 h2 h3} {k : Prog (TpuEff nD τ sig (Elt F) Λ .tc) PUnit} {E : Valuation τ sig (Elt F) → Prop}
    (hk : Line (n + 7) k n' E)
    (hl : lvl b₁.ref = n ∧ lvl x'.ref = n + 1 ∧ lvl b₂.ref = n + 2 ∧ lvl z.ref = n + 3 ∧ lvl c.ref = n + 4
      ∧ lvl b₃.ref = n + 5 ∧ lvl y'.ref = n + 6 ∧ lvl x.ref < n ∧ lvl y.ref < n ∧ lvl k₁.ref < n ∧ lvl k₂.ref < n := by decide) :
    Line n (do
      hlo rfl (TRef.unary k₁ b₁ (broadcastInDim s dims h1)) (fun _ => .ret ⟨⟩)
      hlo rfl (TRef.binary x b₁ x' addi) (fun _ => .ret ⟨⟩)
      hlo rfl (TRef.unary k₂ b₂ (broadcastInDim s dims h2)) (fun _ => .ret ⟨⟩)
      hlo rfl (TRef.binary y b₂ z addi) (fun _ => .ret ⟨⟩)
      hlo rfl (TRef.nullary c (constantI s0 32 m)) (fun _ => .ret ⟨⟩)
      hlo rfl (TRef.unary c b₃ (broadcastInDim s dims h3)) (fun _ => .ret ⟨⟩)
      hlo rfl (TRef.binary z b₃ y' addi) (fun _ => .ret ⟨⟩)
      k) n' (fun W => (∀ K₁ K₂, rd W k₁ = (fun _ => K₁) → rd W k₂ = (fun _ => K₂) →
        ∀ i, (rd W x' i, rd W y' i) = inject K₁ K₂ m (rd W x i, rd W y i)) ∧ E W) := by
  obtain ⟨l0, l1, l2, l3, l4, l5, l6, l7, l8, l9, l10⟩ := hl
  refine (Line.unary (Line.binary (Line.unary (Line.binary (Line.nullary (Line.unary (Line.binary hk
    ?_ ?_ ?_) ?_ ?_) ?_) ?_ ?_ ?_) ?_ ?_) ?_ ?_ ?_) ?_ ?_).mono ?_
  rotate_right
  · rintro W ⟨q0, q1, q2, q3, q4, q5, q6, hE⟩
    refine ⟨fun K₁ K₂ hK₁ hK₂ i => ?_, hE⟩
    have e0 : rd W b₁ = broadcastInDim s dims h1 (rd W k₁) := by unfold rd; rw [q0]; simp
    have e1 : rd W x' = addi (rd W x) (rd W b₁) := by unfold rd; rw [q1]; simp
    have e2 : rd W b₂ = broadcastInDim s dims h2 (rd W k₂) := by unfold rd; rw [q2]; simp
    have e3 : rd W z = addi (rd W y) (rd W b₂) := by unfold rd; rw [q3]; simp
    have e4 : rd W c = constantI s0 32 m := by unfold rd; rw [q4]; simp
    have e5 : rd W b₃ = broadcastInDim s dims h3 (rd W c) := by unfold rd; rw [q5]; simp
    have e6 : rd W y' = addi (rd W z) (rd W b₃) := by unfold rd; rw [q6]; simp
    have f1 : rd W x' i = rd W x i + K₁ := by rw [e1, e0, hK₁]; rfl
    have f6 : rd W y' i = rd W y i + K₂ + m := by rw [e6, e5, e4, e3, e2, hK₂]; rfl
    rw [f1, f6]; rfl
  all_goals omega

end Cert.Proof.Threefry

end
-- ==== Proof.RefHash.lean ====
/-
  The reference's hash function, run over its buffers: at every element the two words it ends with are `threefry` of the
  two counter words it is given, under the two key words.
-/
module

public import proofs.«01_k».proof.Proof.Threefry

@[expose] public section

set_option maxRecDepth 16384

noncomputable section

namespace Cert.Proof.Threefry

open Idealize.ShloMosaic Idealize.ShloMosaic.TcCoe Idealize.ShloMosaic.StableHlo Idealize.SL.Sem Cert.Proof.Lines
open Cert.ReferenceIdeal Cert.ReferenceIdeal.Gen

variable {F : FTy → Type} [FloatOps F]

/-- What the hash's buffers end holding. -/
theorem hash_line :
    Line (Val := Elt F) 41 (fn_threefry2x32.body (F := F) main_call0.v5 main_call0.v7 main_call0.v18 main_call0.v17 main_call0_call0) 263
      (fun W => ∀ K₁ K₂ : BitVec 32, rd W main_call0.v5 = (fun _ => K₁) → rd W main_call0.v7 = (fun _ => K₂) →
        ∀ i, (rd W main_call0_call0.v171 i, rd W main_call0_call0.v175 i)
          = threefry K₁ K₂ (rd W main_call0.v18 i, rd W main_call0.v17 i)) := by
  apply Line.mono
  · unfold fn_threefry2x32.body fn_threefry2x32.body_part0 fn_threefry2x32.body_part1 fn_threefry2x32.body_part2
      fn_threefry2x32.body_part3
    simp only [bind_assoc, pure_bind]
    apply Line.binary
    apply Line.nullary
    apply Line.binary
    apply Line.unary
    apply Line.binary
    apply Line.unary
    apply Line.binary
    iterate 4
      apply round_line
      apply round_line
      apply round_line
      apply round_line
      apply inject_line
    apply round_line
    apply round_line
    apply round_line
    apply round_line
    apply inject_line
    exact Line.ret
    all_goals decide
  · rintro W ⟨q0, q1, q2, q3, q4, q5, q6, a1, a2, a3, a4, a5, b1, b2, b3, b4, b5, c1, c2, c3, c4, c5, d1, d2, d3, d4, d5,
      e1, e2, e3, e4, e5, -⟩ K₁ K₂ hK₁ hK₂ i
    have hK₁' : W (Proc.devRef .tc main_call0_v5) = fun _ => K₁ := hK₁
    have hK₂' : W (Proc.devRef .tc main_call0_v7) = fun _ => K₂ := hK₂
    have hK₃ : rd W main_call0_call0.v1 = fun _ => K₁ ^^^ K₂ ^^^ 466688986#32 := by
      refine (q2.trans ?_ : W (Proc.devRef .tc main_call0_call0_v1) = _)
      rw [q0, q1]
      refine funext fun j => ?_
      show ((show BitVec 32 from W (Proc.devRef .tc main_call0_v5) j) ^^^ (show BitVec 32 from W (Proc.devRef .tc main_call0_v7) j))
        ^^^ 466688986#32 = _
      rw [hK₁', hK₂']
    have hx : rd W main_call0_call0.v3 i = rd W main_call0.v18 i + K₁ := by
      refine (congrFun (q4.trans ?_ : W (Proc.devRef .tc main_call0_call0_v3) = addi (rd W main_call0.v18) (fun _ => K₁)) i)
      rw [q3]
      show addi (rd W main_call0.v18) (broadcastInDim S1024x32768 ![] bcast_S_S1024x32768 (W (Proc.devRef .tc main_call0_v5))) = _
      rw [hK₁']; rfl
    have hy : rd W main_call0_call0.v5 i = rd W main_call0.v17 i + K₂ := by
      refine (congrFun (q6.trans ?_ : W (Proc.devRef .tc main_call0_call0_v5) = addi (rd W main_call0.v17) (fun _ => K₂)) i)
      rw [q5]
      show addi (rd W main_call0.v17) (broadcastInDim S1024x32768 ![] bcast_S_S1024x32768 (W (Proc.devRef .tc main_call0_v7))) = _
      rw [hK₂']; rfl
    refine (e5 _ _ hK₃ hK₁ i).trans ?_
    rw [e4, e3, e2, e1, d5 _ _ hK₂ hK₃ i, d4, d3, d2, d1, c5 _ _ hK₁ hK₂ i, c4, c3, c2, c1, b5 _ _ hK₃ hK₁ i, b4, b3, b2, b1,
      a5 _ _ hK₂ hK₃ i, a4, a3, a2, a1]
    unfold threefry four four'
    rw [← hx, ← hy]

end Cert.Proof.Threefry

end
-- ==== Proof.RefRun.lean ====
/-
  The run of the reference program: a straight line of host operations, so that its final contents are known from one
  equation per operation (`Lines`). `uniform_line` reads the drawing of the uniform numbers, `main_line` the whole.
-/
module

public import proofs.«01_k».proof.Proof.RefHash
public import Idealize.ShloMosaic.Lib.Quiescent

@[expose] public section

set_option maxRecDepth 16384

noncomputable section

namespace Cert.Proof.RefRun

open Idealize.ShloMosaic Idealize.ShloMosaic.TcCoe Idealize.ShloMosaic.StableHlo Idealize.SL.Sem Cert.Proof.Lines Cert.Proof.Threefry
open Cert.ReferenceIdeal Cert.ReferenceIdeal.Gen

variable {F : FTy → Type} [FloatOps F]

/-- The counter word of an element: its place in the array, row by row. -/
def counter (i : S1024x32768.Idx) : BitVec 32 := BitVec.ofNat 32 (32768 * (i 0).val + (i 1).val)

/-- The random word of an element: the two words of the hash of its counter under the key 42, one against the other. -/
def bitsAt (i : S1024x32768.Idx) : BitVec 32 :=
  (threefry 0#32 42#32 (0#32, counter i)).1 ^^^ (threefry 0#32 42#32 (0#32, counter i)).2

/-- The number of `[0, 1)` that a random word's upper bits make. -/
def unitAt (i : S1024x32768.Idx) : F .f32 :=
  FloatOps.subf (FloatOps.ofBits .f32 ((bitsAt i >>> 9#32) ||| 1065353216#32)) (FloatOps.ofBits .f32 0x3F800000#32)

/-- What the draw of the uniform numbers ends with, of the key pair `(0, 42)` and the bounds 0 and 1. -/
theorem uniform_line :
    Line (Val := Elt F) 19 (fn_uniform.body (F := F) (.of main_v10) (.of main_cst) (.of main_cst_2) main_call0) 281 (fun W =>
      (∀ j : S2.Idx, (W (Proc.devRef .tc main_v10) : S2.Idx → BitVec 32) j = if (j 0).val = 0 then 0#32 else 42#32) →
      (W (Proc.devRef .tc main_cst) = constant S_ .f32 0x00000000#32) →
      (W (Proc.devRef .tc main_cst_2) = constant S_ .f32 0x3F800000#32) →
      ∀ i : S1024x32768.Idx, (W (Proc.devRef .tc main_v11) : S1024x32768.Idx → F .f32) i
        = FloatOps.maximumf (FloatOps.ofBits .f32 0x00000000#32)
          (FloatOps.addf (FloatOps.mulf (unitAt i)
            (FloatOps.subf (FloatOps.ofBits .f32 0x3F800000#32) (FloatOps.ofBits .f32 0x00000000#32)))
            (FloatOps.ofBits .f32 0x00000000#32))) := by
  apply Line.mono
  · unfold fn_uniform.body
    apply Line.unary
    apply Line.unary
    apply Line.unary
    apply Line.unary
    apply Line.unary
    apply Line.reshape
    apply Line.unary
    apply Line.reshape
    apply Line.nullary
    apply Line.nullary
    apply Line.nullary
    apply Line.unary
    apply Line.binary
    apply Line.nullary
    apply Line.unary
    apply Line.binary
    apply Line.binary
    apply Line.nullary
    apply Line.unary
    apply Line.binary
    apply Line.unary
    apply Line.unary
    apply Line.bind hash_line
    apply Line.binary
    apply Line.nullary
    apply Line.unary
    apply Line.binary
    apply Line.nullary
    apply Line.unary
    apply Line.binary
    apply Line.unary
    apply Line.nullary
    apply Line.unary
    apply Line.binary
    apply Line.binary
    apply Line.unary
    apply Line.binary
    apply Line.unary
    apply Line.binary
    apply Line.unary
    apply Line.binary
    exact Line.ret
    all_goals decide
  · rintro W ⟨q0, q1, q2, q3, q4, q5, q6, q7, q8, q9, q10, q11, q12, q13, q14, q15, q16, q17, q18, q19, q20, q21, hh,
      r0, r1, r2, r3, r4, r5, r6, r7, r8, r9, r10, r11, r12, r13, r14, r15, r16, r17, -⟩
    intro hkey hz ho i
    simp only [cast_eq] at *
    have k5 : W (Proc.devRef .tc main_call0_v5) = fun _ => 0#32 := by
      rw [q5]; funext j
      refine (congrFun q4 _).trans ((hkey _).trans (if_pos ?_))
      show 0 + (_ : Fin 1).val = 0
      exact (zero_add _).trans (Nat.lt_one_iff.1 (Fin.isLt _))
    have k7 : W (Proc.devRef .tc main_call0_v7) = fun _ => 42#32 := by
      rw [q7]; funext j
      refine (congrFun q6 _).trans ((hkey _).trans (if_neg ?_))
      show ¬ 1 + (_ : Fin 1).val = 0
      omega
    have w14 : (W (Proc.devRef .tc main_call0_v14) : S1024x32768.Idx → BitVec 64) i
        = 32768#64 * BitVec.ofNat 64 (i 0).val + 1#64 * BitVec.ofNat 64 (i 1).val := by
      rw [q16, q12, q11, q10, q8, q15, q14, q13, q9]; rfl
    have w17 : (W (Proc.devRef .tc main_call0_v17) : S1024x32768.Idx → BitVec 32) i = counter i := by
      rw [q20]
      show BitVec.setWidth 32 ((W (Proc.devRef .tc main_call0_v14) : S1024x32768.Idx → BitVec 64) i) = _
      rw [w14, counter]
      have h0 := (i 0).isLt; have h1 := (i 1).isLt
      simp at h0 h1
      apply BitVec.eq_of_toNat_eq
      simp
    have w18 : (W (Proc.devRef .tc main_call0_v18) : S1024x32768.Idx → BitVec 32) i = 0#32 := by
      rw [q21, q19, q18, q17]
      show BitVec.setWidth 32 (IntOp.shrui .host ((W (Proc.devRef .tc main_call0_v14) : S1024x32768.Idx → BitVec 64) i) 32#64) = _
      rw [w14]
      have h0 := (i 0).isLt; have h1 := (i 1).isLt
      simp at h0 h1
      rw [IntOp.shrui, if_pos (by decide)]
      apply BitVec.eq_of_toNat_eq
      simp
      omega
    have hp := hh 0#32 42#32 k5 k7 i
    have h20 : (W (Proc.devRef .tc main_call0_v20) : S1024x32768.Idx → BitVec 32) i = bitsAt i := by
      rw [r0]
      have e1 := congrArg Prod.fst hp
      have e2 := congrArg Prod.snd hp
      have hp' : ((rd W main_call0.v18 i, rd W main_call0.v17 i) : BitVec 32 × BitVec 32) = (0#32, counter i) := by
        exact Prod.ext w18 w17
      rw [bitsAt, ← hp']
      exact congrArg₂ (fun p q : BitVec 32 => p ^^^ q) e1 e2
    have h27 : (W (Proc.devRef .tc main_call0_v27) : S1024x32768.Idx → F .f32) i = unitAt i := by
      rw [r10, r9, r8, r7, r6, r5, r4, r3, r2, r1, unitAt, ← h20]
      show FloatOps.subf (FloatOps.ofBits .f32 (IntOp.shrui .host _ 9#32 ||| 1065353216#32)) _ = _
      rw [host_shrui _ _ (by decide)]; rfl
    rw [r17, r16, r15, r14, r13, r12, r11, q3, q2, q1, q0, hz, ho, ← h27]
    rfl

/-- The logits: the product, plus the bias on every row. -/
def refLogits (x : S1024x2048.Idx → F .f32) (w : S2048x32768.Idx → F .f32) (b : S32768.Idx → F .f32) : S1024x32768.Idx → F .f32 :=
  addf (Host.dotGeneral dot_S1024x2048_S2048x32768_S1024x32768_1_0_0_1_n_n none x w)
    (broadcastInDim S1024x32768 ![0, 1] bcast_S1x32768_S1024x32768_0_1 (broadcastInDim S1x32768 ![1] bcast_S32768_S1x32768_1 b))

/-- The uniform number of an element, kept away from zero. -/
def refUnif : S1024x32768.Idx → F .f32 := fun i =>
  FloatOps.maximumf (FloatOps.ofBits .f32 0x2EDBE6FF#32)
    (FloatOps.addf (FloatOps.mulf
      (FloatOps.maximumf (FloatOps.ofBits .f32 0x00000000#32)
        (FloatOps.addf (FloatOps.mulf (unitAt i)
          (FloatOps.subf (FloatOps.ofBits .f32 0x3F800000#32) (FloatOps.ofBits .f32 0x00000000#32)))
          (FloatOps.ofBits .f32 0x00000000#32)))
      (FloatOps.ofBits .f32 0x3F800000#32)) (FloatOps.ofBits .f32 0x2EDBE6FF#32))

/-- The Gumbel numbers. -/
def refNoise : S1024x32768.Idx → F .f32 := Host.negf (Host.log (Host.negf (Host.log refUnif)))

/-- The perturbed logits, over the temperature. -/
def refZ (L : S1024x32768.Idx → F .f32) : S1024x32768.Idx → F .f32 :=
  Host.divf (addf L refNoise) (broadcastInDim S1024x32768 ![] bcast_S_S1024x32768 (constant S_ .f32 0x3F800000#32))

/-- The largest of a row, from minus infinity, twice. -/
def refMax (z : S1024x32768.Idx → F .f32) : S1024.Idx → F .f32 :=
  maximumf (broadcastInDim S1024 ![] bcast_S_S1024 (constant S_ .f32 0xFF800000#32))
    (Host.reduce FloatOps.maximumf z (constant S_ .f32 0xFF800000#32) reducesTo_S1024x32768_S1024_d1 h_S_)

/-- A row's numbers less its largest. -/
def refShift (z : S1024x32768.Idx → F .f32) : S1024x32768.Idx → F .f32 :=
  subf z (broadcastInDim S1024x32768 ![0, 1] bcast_S1024x1_S1024x32768_0_1 (broadcastInDim S1024x1 ![0] bcast_S1024_S1024x1_0 (refMax z)))

/-- A row's sum. -/
def refSum (z : S1024x32768.Idx → F .f32) : S1024.Idx → F .f32 :=
  Host.reduceAdd z (constant S_ .f32 0x00000000#32) reducesTo_S1024x32768_S1024_d1 h_S_

/-- The softmax of every row. -/
def refSoft (z : S1024x32768.Idx → F .f32) : S1024x32768.Idx → F .f32 :=
  Host.divf (Host.exp (refShift z))
    (broadcastInDim S1024x32768 ![0, 1] bcast_S1024x1_S1024x32768_0_1
      (broadcastInDim S1024x1 ![0] bcast_S1024_S1024x1_0 (refSum (Host.exp (refShift z)))))

/-- The place of every row's largest. -/
def refArg (y : S1024x32768.Idx → F .f32) : S1024.Idx → BitVec 32 := fun j =>
  (Host.argReduce reducer_argmax_f32_i32 y (iotaInDim S1024x32768 32 1) (constant S_ .f32 0xFF800000#32) (constantI S_ 32 0#32)
    reducesTo_S1024x32768_S1024_d1 h_S_ j).2

/-- One at a row's place, zero elsewhere. -/
def refHot (k : S1024.Idx → BitVec 32) : S1024x32768.Idx → F .f32 :=
  uitofp .f32 (cmpi .eq
    (broadcastInDim S1024x32768 ![0, 1] bcast_S1024x1_S1024x32768_0_1 (broadcastInDim S1024x1 ![0] bcast_S1024_S1024x1_0 k))
    (broadcastInDim S1024x32768 ![0, 1] bcast_S1x32768_S1024x32768_0_1 (iotaInDim S1x32768 32 1)))

/-- The sample: the soft one, and onto it the hard one less the soft one. -/
def refSample (L : S1024x32768.Idx → F .f32) : S1024x32768.Idx → F .f32 :=
  addf (refSoft (refZ L)) (subf (refHot (refArg (refSoft (refZ L)))) (refSoft (refZ L)))

/-- The logarithm of the softmax of every row. -/
def refLogSoft (L : S1024x32768.Idx → F .f32) : S1024x32768.Idx → F .f32 :=
  subf (refShift L) (broadcastInDim S1024x32768 ![0, 1] bcast_S1024x1_S1024x32768_0_1
    (Host.log (broadcastInDim S1024x1 ![0] bcast_S1024_S1024x1_0 (refSum (Host.exp (refShift L))))))

/-- The entropy of every row. -/
def refEnt (L : S1024x32768.Idx → F .f32) : S1024.Idx → F .f32 :=
  Host.negf (refSum (mulf (Host.exp (refLogSoft L)) (refLogSoft L)))

/-- The two words of the key put side by side, read at an index. -/
theorem key_words (j : S2.Idx) :
    concatenate S2 0 [⟨S1, fun _ => 0#32⟩, ⟨S1, fun _ => 42#32⟩] concatenates_S1_S1_S2_d0 j
      = if (j 0).val = 0 then 0#32 else 42#32 := by
  revert j; decide +kernel

/-- What the program's three results end holding. -/
theorem main_line (d : Dev nD) :
    Line (Val := Elt F) 3 (main (F := F) d) 345 (fun W =>
      W (Proc.devRef .tc main_v3)
        = refLogits (W (Proc.devRef .tc main_arg0)) (W (Proc.devRef .tc main_arg1)) (W (Proc.devRef .tc main_arg2))
      ∧ W (Proc.devRef .tc main_v39) = refSample (W (Proc.devRef .tc main_v3))
      ∧ W (Proc.devRef .tc main_v44) = refEnt (W (Proc.devRef .tc main_v3))) := by
  apply Line.mono
  · unfold main
    apply Line.binary
    apply Line.unary
    apply Line.unary
    apply Line.binary
    apply Line.nullary
    apply Line.nullary
    apply Line.binary
    apply Line.unary
    apply Line.unary
    apply Line.nullary
    apply Line.binary
    apply Line.unary
    apply Line.unary
    apply Line.binary
    apply Line.nullary
    apply Line.nullary
    apply Line.bind uniform_line
    apply Line.nullary
    apply Line.unary
    apply Line.binary
    apply Line.nullary
    apply Line.unary
    apply Line.binary
    apply Line.nullary
    apply Line.unary
    apply Line.binary
    apply Line.unary
    apply Line.unary
    apply Line.unary
    apply Line.unary
    apply Line.binary
    apply Line.nullary
    apply Line.unary
    apply Line.binary
    apply Line.nullary
    apply Line.binary
    apply Line.nullary
    apply Line.unary
    apply Line.binary
    apply Line.unary
    apply Line.unary
    apply Line.binary
    apply Line.unary
    apply Line.nullary
    apply Line.binary
    apply Line.unary
    apply Line.unary
    apply Line.binary
    unfold fn_argmax.body fn_one_hot.body fn_log_softmax.body
    simp only [bind_assoc, pure_bind]
    apply Line.nullary
    apply Line.nullary
    apply Line.nullary
    apply Line.quaternary
    apply Line.quaternary
    apply Line.unary
    apply Line.nullary
    apply Line.unary
    apply Line.unary
    apply Line.binary
    apply Line.unary
    apply Line.binary
    apply Line.binary
    apply Line.nullary
    apply Line.binary
    apply Line.nullary
    apply Line.unary
    apply Line.binary
    apply Line.unary
    apply Line.unary
    apply Line.binary
    apply Line.unary
    apply Line.nullary
    apply Line.binary
    apply Line.unary
    apply Line.unary
    apply Line.unary
    apply Line.binary
    apply Line.unary
    apply Line.binary
    apply Line.nullary
    apply Line.binary
    apply Line.unary
    exact Line.ret
    all_goals decide
  · rintro W ⟨q0, q1, q2, q3, q4, q5, q6, q7, q8, q9, q10, q11, q12, q13, q14, q15, hu,
      r0, r1, r2, r3, r4, r5, r6, r7, r8, r9, r10, r11, r12, r13, r14, r15, r16, s0, s1, s2, s3, s4, s5, s6, s7, s8, s9, s10, s11,
      s12, s13, a0, a1, a2, a3, a4, h0, h1, h2, h3, h4, h5, t0, t1, l0, l1, l2, l3, l4, l5, l6, l7, l8, l9, l10, l11, l12, l13, l14,
      e0, e1, e2, e3, e4, -⟩
    simp only [cast_eq] at *
    have hkey : ∀ j : S2.Idx, (W (Proc.devRef .tc main_v10) : S2.Idx → BitVec 32) j = if (j 0).val = 0 then 0#32 else 42#32 := by
      have hv6 : (W (Proc.devRef .tc main_v6) : S1.Idx → BitVec 32) = fun _ => 0#32 := by
        rw [q8, q7, q6, q5, q4]; rfl
      have hv9 : (W (Proc.devRef .tc main_v9) : S1.Idx → BitVec 32) = fun _ => 42#32 := by
        rw [q12, q11, q10, q9, q4]; exact funext fun _ => (by decide : 42#32 &&& 4294967295#32 = 42#32)
      intro j
      rw [q13, hv6, hv9]
      exact key_words j
    have hu' := hu hkey q14 q15
    have hnoise : W (Proc.devRef .tc main_v21) = refNoise (F := F) := by
      rw [r12, r11, r10, r9, r8, r7, r6, r5, r4, r3, r2, r1, r0, refNoise]
      congr 4
      funext i
      show FloatOps.maximumf _ (FloatOps.addf (FloatOps.mulf ((W (Proc.devRef .tc main_v11) : S1024x32768.Idx → F .f32) i) _) _) = _
      rw [hu' i]; rfl
    have hz : W (Proc.devRef .tc main_v24) = refZ (F := F) (W (Proc.devRef .tc main_v3)) := by
      rw [r16, r15, r14, r13, hnoise]; rfl
    have hsoft : W (Proc.devRef .tc main_v35) = refSoft (F := F) (refZ (W (Proc.devRef .tc main_v3))) := by
      rw [← hz, s13, s12, s11, s10, s9, s8, s7, s6, s5, s4, s3, s2, s1, s0]; rfl
    have hlog : W (Proc.devRef .tc main_v40) = refLogSoft (F := F) (W (Proc.devRef .tc main_v3)) := by
      rw [l14, l13, l12, l11, l10, l9, l8, l7, l6, l5, l4, l3, l2, l1, l0]; rfl
    refine ⟨?_, ?_, ?_⟩
    · rw [q3, q2, q1, q0]; rfl
    · rw [t1, t0, h5, h4, h3, h2, h1, h0, a4, a2, a1, a0, hsoft]; rfl
    · rw [e4, e3, e2, e1, e0, hlog]; rfl

/-- The reference's run from any memory: it ends, its arguments unchanged, its three results the functions above of the
    arguments, and every counter zero. -/
theorem run (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD, (r.2.mem ((c.tc : Thread nD τ).loc main_v3)
          = refLogits (m ((c.tc : Thread nD τ).loc main_arg0)) (m ((c.tc : Thread nD τ).loc main_arg1)) (m ((c.tc : Thread nD τ).loc main_arg2))
        ∧ r.2.mem ((c.tc : Thread nD τ).loc main_v39) = refSample (r.2.mem ((c.tc : Thread nD τ).loc main_v3))
        ∧ r.2.mem ((c.tc : Thread nD τ).loc main_v44) = refEnt (r.2.mem ((c.tc : Thread nD τ).loc main_v3)))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0 := by
  have hl : ∀ d : Dev nD, _ := fun d => main_line (F := F) d
  choose hn ops h1 h2 h3 h4 h5 using hl
  refine (θ_run defs _ _).mono ?_ (run_seq (by decide) (by decide) defs main ops h1
    (fun d => List.forall_iff_forall_mem.2 (h2 d)) m ρ h3)
  intro r h
  refine ⟨fun c => ?_, sem_eq_zero_of_no_sems (by decide) r.2⟩
  have ha0 := h4 c (launchContents m c) main_arg0 (by decide)
  have ha1 := h4 c (launchContents m c) main_arg1 (by decide)
  have ha2 := h4 c (launchContents m c) main_arg2 (by decide)
  obtain ⟨g1, g2, g3⟩ := h5 c (launchContents m c) (after (ops c) (launchContents m c)) fun _ _ => rfl
  rw [ha0, ha1, ha2] at g1
  rw [h c main_v3, h c main_v39, h c main_v44, h c main_arg0, h c main_arg1, h c main_arg2]
  exact ⟨⟨g1, g2, g3⟩, ha0, ha1, ha2⟩

end Cert.Proof.RefRun

end
-- ==== Proof.Frames.lean ====
module

public import proofs.«01_k».proof.Proof.Twin
public import proofs.«01_k».proof.Proof.KernelRun
public import proofs.«01_k».proof.Proof.RefRun

@[expose] public section

set_option maxRecDepth 16384

noncomputable section

namespace Cert.Proof

open Idealize.ShloMosaic Idealize.SL.Sem

/-- The kernel's program at machine words is the text of the program over the reals, read at machine words. -/
theorem main_eq : Cert.Kernel.main (F := Bits) = Cert.KernelIdeal.main (F := Bits) := rfl

/-- The kernel at machine words: it ends, its arguments unchanged and its counters zero. -/
theorem frame_kernel : Cert.quiescent_Kernel := by
  intro m g _
  rw [defs_eq, main_eq]
  exact Cert.KernelIdeal.Own.frame (F := Bits) m g

/-- The kernel over the reals: the same, from any memory. -/
theorem frame_ideal : Cert.quiescent_KernelIdeal :=
  fun m g _ => Cert.KernelIdeal.Own.frame (F := Ideal) m g

/-- The reference over the reals: the same, from any memory. -/
theorem frame_reference : Cert.quiescent_ReferenceIdeal := fun m g _ =>
  (θ_run Cert.ReferenceIdeal.defs _ _).mono (fun _ h => ⟨fun c => (h.1 c).2, h.2⟩) (RefRun.run (F := Ideal) m g)

end Cert.Proof
end
-- ==== Proof.Blocks.lean ====
module

public import proofs.«01_k».proof.Proof.KernelRun
public import Idealize.ShloMosaic.Lib.Pipeline.Value

/-! What the arrays that the two kernels write hold at the end, block by block, and what their input blocks are. -/

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.Sem
open Idealize.ShloMosaic.Pipeline (Dat)

variable {F : FTy → Type} [FloatOps F]
variable (V : Valuation τ sig (Elt F))

/-! ## Where the blocks lie -/

theorem index0_0 : ∀ t : Fin cfg0.N, win0_0.index t = ![0, 0] := (by decide +kernel : ∀ t : Fin grid0.N, _)
theorem index0_1 : ∀ t : Fin cfg0.N, win0_1.index t = ![0, t.val] := (by decide +kernel : ∀ t : Fin grid0.N, _)
theorem index0_2 : ∀ t : Fin cfg0.N, win0_2.index t = ![0, t.val] := (by decide +kernel : ∀ t : Fin grid0.N, _)
theorem index0_3 : ∀ t : Fin cfg0.N, win0_3.index t = ![0, t.val] := (by decide +kernel : ∀ t : Fin grid0.N, _)
theorem index0_4 : ∀ t : Fin cfg0.N, win0_4.index t = ![0, 0] := (by decide +kernel : ∀ t : Fin grid0.N, _)
theorem index0_5 : ∀ t : Fin cfg0.N, win0_5.index t = ![0, 0] := (by decide +kernel : ∀ t : Fin grid0.N, _)
theorem index1_0 : ∀ t : Fin cfg1.N, win1_0.index t = ![0, 0] := (by decide +kernel : ∀ t : Fin grid1.N, _)
theorem index1_1 : ∀ t : Fin cfg1.N, win1_1.index t = ![0, t.val] := (by decide +kernel : ∀ t : Fin grid1.N, _)

/-- The block of 1024 columns that holds a column, and an element's place in it. -/
def ptOf (i : S1024x32768.Idx) : Fin cfg0.N := ⟨(i 1).val / 1024, lt_of_lt_of_eq (by have : (i 1).val < 32768 := (i 1).isLt; omega) N_0.symm⟩
def inOf (i : S1024x32768.Idx) : S1024x1024.Idx := fun a => match a with
  | ⟨0, _⟩ => ⟨(i 0).val, (i 0).isLt⟩
  | ⟨1, _⟩ => ⟨(i 1).val % 1024, Nat.mod_lt _ (by decide)⟩

/-- The element of the whole array at a place of block `t`. -/
def outOf (t : Fin cfg0.N) (y : S1024x1024.Idx) : S1024x32768.Idx := fun a => match a with
  | ⟨0, _⟩ => ⟨(y 0).val, (y 0).isLt⟩
  | ⟨1, _⟩ => ⟨t.val * 1024 + (y 1).val, by
      have h : (y 1).val < 1024 := (y 1).isLt; have ht : t.val < 32 := lt_of_lt_of_eq t.isLt N_0
      show t.val * 1024 + (y 1).val < 32768; omega⟩

theorem ptOf_outOf (t : Fin cfg0.N) (y : S1024x1024.Idx) : ptOf (outOf t y) = t := by
  apply Fin.ext
  show (t.val * 1024 + (y 1).val) / 1024 = t.val
  have h : (y 1).val < 1024 := (y 1).isLt; omega

theorem inOf_outOf (t : Fin cfg0.N) (y : S1024x1024.Idx) : inOf (outOf t y) = y := by
  funext a; apply Fin.ext
  match a with
  | ⟨0, _⟩ => rfl
  | ⟨1, _⟩ => show (t.val * 1024 + (y 1).val) % 1024 = (y 1).val; have h : (y 1).val < 1024 := (y 1).isLt; omega

theorem outOf_inOf (i : S1024x32768.Idx) : outOf (ptOf i) (inOf i) = i := by
  funext a; apply Fin.ext
  match a with
  | ⟨0, _⟩ => rfl
  | ⟨1, _⟩ => show (i 1).val / 1024 * 1024 + (i 1).val % 1024 = (i 1).val; omega

theorem emb0_3 (t : Fin cfg0.N) (y : S1024x1024.Idx) : ((cfg0.win 3).blk t).view.emb y = outOf t y := by
  have e := index0_3 t
  funext a; apply Fin.ext
  match a with
  | ⟨0, _⟩ =>
    show win0_3.index t (0 : Fin 2) * 1024 + 1 * (y 0).val = (y 0).val
    rw [e]; show 0 * 1024 + 1 * (y 0).val = _; omega
  | ⟨1, _⟩ =>
    show win0_3.index t (1 : Fin 2) * 1024 + 1 * (y 1).val = t.val * 1024 + (y 1).val
    rw [e]; show t.val * 1024 + 1 * (y 1).val = _; omega

/-! ## The input blocks -/

theorem blk0_0 (t : Fin cfg0.N) : blk0 V 0 t = V (Proc.devRef .tc main_arg0) := by
  have e := index0_0 t
  funext y
  show V (Proc.devRef .tc main_arg0) (((cfg0.win 0).blk t).view.emb y) = _
  congr 1
  funext a; apply Fin.ext
  match a with
  | ⟨0, _⟩ =>
    show win0_0.index t (0 : Fin 2) * 1024 + 1 * (y 0).val = (y 0).val
    rw [e]; show 0 * 1024 + 1 * (y 0).val = _; omega
  | ⟨1, _⟩ =>
    show win0_0.index t (1 : Fin 2) * 2048 + 1 * (y 1).val = (y 1).val
    rw [e]; show 0 * 2048 + 1 * (y 1).val = _; omega

/-- A column of the weights at a place of block `t`. -/
def wOut (t : Fin cfg0.N) (y : S2048x1024.Idx) : S2048x32768.Idx := fun a => match a with
  | ⟨0, _⟩ => ⟨(y 0).val, (y 0).isLt⟩
  | ⟨1, _⟩ => ⟨t.val * 1024 + (y 1).val, by
      have h : (y 1).val < 1024 := (y 1).isLt; have ht : t.val < 32 := lt_of_lt_of_eq t.isLt N_0
      show t.val * 1024 + (y 1).val < 32768; omega⟩

theorem blk0_1 (t : Fin cfg0.N) (y : S2048x1024.Idx) : blk0 V 1 t y = V (Proc.devRef .tc main_arg1) (wOut t y) := by
  have e := index0_1 t
  show V (Proc.devRef .tc main_arg1) (((cfg0.win 1).blk t).view.emb y) = _
  congr 1
  funext a; apply Fin.ext
  match a with
  | ⟨0, _⟩ =>
    show win0_1.index t (0 : Fin 2) * 2048 + 1 * (y 0).val = (y 0).val
    rw [e]; show 0 * 2048 + 1 * (y 0).val = _; omega
  | ⟨1, _⟩ =>
    show win0_1.index t (1 : Fin 2) * 1024 + 1 * (y 1).val = t.val * 1024 + (y 1).val
    rw [e]; show t.val * 1024 + 1 * (y 1).val = _; omega

/-- An entry of the bias row at a place of block `t`. -/
def bOut (t : Fin cfg0.N) (y : S1x1024.Idx) : S1x32768.Idx := fun a => match a with
  | ⟨0, _⟩ => ⟨(y 0).val, (y 0).isLt⟩
  | ⟨1, _⟩ => ⟨t.val * 1024 + (y 1).val, by
      have h : (y 1).val < 1024 := (y 1).isLt; have ht : t.val < 32 := lt_of_lt_of_eq t.isLt N_0
      show t.val * 1024 + (y 1).val < 32768; omega⟩

theorem blk0_2 (t : Fin cfg0.N) (y : S1x1024.Idx) : blk0 V 2 t y = V (Proc.devRef .tc main_v0) (bOut t y) := by
  have e := index0_2 t
  show V (Proc.devRef .tc main_v0) (((cfg0.win 2).blk t).view.emb y) = _
  congr 1
  funext a; apply Fin.ext
  match a with
  | ⟨0, _⟩ =>
    show win0_2.index t (0 : Fin 2) * 1 + 1 * (y 0).val = (y 0).val
    rw [e]; show 0 * 1 + 1 * (y 0).val = _; omega
  | ⟨1, _⟩ =>
    show win0_2.index t (1 : Fin 2) * 1024 + 1 * (y 1).val = t.val * 1024 + (y 1).val
    rw [e]; show t.val * 1024 + 1 * (y 1).val = _; omega

/-! ## The logits' array -/

theorem flush0_3' : ∀ t : Fin cfg0.N, (cfg0.win 3).flush t = true := (by decide +kernel : ∀ t : Fin grid0.N, win0_3.flush t = true)

/-- The logits' array at the end: each element is what the body computed at its block's point, in its place. -/
theorem arr_logits (c : Dev nD) : (dat0 V c).arrAt 3 cfg0.N = fun i => logitsAt V (ptOf i) (inOf i) :=
  (dat0 V c).arrAt_eq_of_cover 3 _ (fun t _ => by
    show (cfg0.win 3).cut (grid0.coords t) ((dat0 V c).after 3 t) = _
    rw [after0_3]
    funext y
    show logitsAt V t y = logitsAt V (ptOf (((cfg0.win 3).blk t).view.emb y)) (inOf (((cfg0.win 3).blk t).view.emb y))
    rw [emb0_3, ptOf_outOf, inOf_outOf]) fun i => by
    refine ⟨ptOf i, flush0_3' _, ?_⟩
    have h := ((cfg0.win 3).blk (ptOf i)).view.emb_mem_set (inOf i)
    rwa [emb0_3, outOf_inOf] at h

/-! ## The arrays of one value a row, written at the last point only -/

theorem emb0_4 (t : Fin cfg0.N) (y : S1024x1.Idx) : ((cfg0.win 4).blk t).view.emb y = y := by
  have e := index0_4 t
  funext a; apply Fin.ext
  match a with
  | ⟨0, _⟩ =>
    show win0_4.index t (0 : Fin 2) * 1024 + 1 * (y 0).val = (y 0).val
    rw [e]; show 0 * 1024 + 1 * (y 0).val = _; omega
  | ⟨1, _⟩ =>
    show win0_4.index t (1 : Fin 2) * 1 + 1 * (y 1).val = (y 1).val
    rw [e]; show 0 * 1 + 1 * (y 1).val = _; omega

theorem emb0_5 (t : Fin cfg0.N) (y : S1024x1.Idx) : ((cfg0.win 5).blk t).view.emb y = y := by
  have e := index0_5 t
  funext a; apply Fin.ext
  match a with
  | ⟨0, _⟩ =>
    show win0_5.index t (0 : Fin 2) * 1024 + 1 * (y 0).val = (y 0).val
    rw [e]; show 0 * 1024 + 1 * (y 0).val = _; omega
  | ⟨1, _⟩ =>
    show win0_5.index t (1 : Fin 2) * 1 + 1 * (y 1).val = (y 1).val
    rw [e]; show 0 * 1 + 1 * (y 1).val = _; omega

/-- The last block's point. -/
def lastPt : Fin cfg0.N := ⟨31, lt_of_lt_of_eq (by decide) N_0.symm⟩

theorem flush0_4' : ∀ t : Fin cfg0.N, (cfg0.win 4).flush t = true ↔ t = lastPt := (by decide +kernel : ∀ t : Fin grid0.N, win0_4.flush t = true ↔ t = lastPt)
theorem flush0_5' : ∀ t : Fin cfg0.N, (cfg0.win 5).flush t = true ↔ t = lastPt := (by decide +kernel : ∀ t : Fin grid0.N, win0_5.flush t = true ↔ t = lastPt)

/-- The entropies' array at the end: the entropy of the state after all 32 blocks. -/
theorem arr_ent (c : Dev nD) : (dat0 V c).arrAt 4 cfg0.N = (stAt V 32).ent :=
  (dat0 V c).arrAt_eq_of_cover 4 _ (fun t hf => by
    have ht := (flush0_4' t).1 hf
    subst ht
    show (cfg0.win 4).cut (grid0.coords lastPt) ((dat0 V c).after 4 lastPt) = _
    rw [after0_4]
    funext y
    show (stAt V 32).ent y = (stAt V 32).ent (((cfg0.win 4).blk lastPt).view.emb y)
    rw [emb0_4]) fun i => by
    refine ⟨lastPt, (flush0_4' _).2 rfl, ?_⟩
    have h := ((cfg0.win 4).blk lastPt).view.emb_mem_set i
    rwa [emb0_4] at h

/-- The chosen columns' array at the end: the column of the state after all 32 blocks. -/
theorem arr_col (c : Dev nD) : (dat0 V c).arrAt 5 cfg0.N = (stAt V 32).bi :=
  (dat0 V c).arrAt_eq_of_cover 5 _ (fun t hf => by
    have ht := (flush0_5' t).1 hf
    subst ht
    show (cfg0.win 5).cut (grid0.coords lastPt) ((dat0 V c).after 5 lastPt) = _
    rw [after0_5]
    funext y
    show (stAt V 32).bi y = (stAt V 32).bi (((cfg0.win 5).blk lastPt).view.emb y)
    rw [emb0_5]) fun i => by
    refine ⟨lastPt, (flush0_5' _).2 rfl, ?_⟩
    have h := ((cfg0.win 5).blk lastPt).view.emb_mem_set i
    rwa [emb0_5] at h

/-! ## The second kernel -/

theorem blk1_0 (t : Fin cfg1.N) : blk1 V 0 t = V (Proc.devRef .tc main_v1_2) := by
  have e := index1_0 t
  funext y
  show V (Proc.devRef .tc main_v1_2) (((cfg1.win 0).blk t).view.emb y) = _
  congr 1
  funext a; apply Fin.ext
  match a with
  | ⟨0, _⟩ =>
    show win1_0.index t (0 : Fin 2) * 1024 + 1 * (y 0).val = (y 0).val
    rw [e]; show 0 * 1024 + 1 * (y 0).val = _; omega
  | ⟨1, _⟩ =>
    show win1_0.index t (1 : Fin 2) * 1 + 1 * (y 1).val = (y 1).val
    rw [e]; show 0 * 1 + 1 * (y 1).val = _; omega

/-- The block of 2048 columns that holds a column, and an element's place in it. -/
def ptOf1 (i : S1024x32768.Idx) : Fin cfg1.N := ⟨(i 1).val / 2048, lt_of_lt_of_eq (by have : (i 1).val < 32768 := (i 1).isLt; omega) N_1.symm⟩
def inOf1 (i : S1024x32768.Idx) : S1024x2048.Idx := fun a => match a with
  | ⟨0, _⟩ => ⟨(i 0).val, (i 0).isLt⟩
  | ⟨1, _⟩ => ⟨(i 1).val % 2048, Nat.mod_lt _ (by decide)⟩

theorem emb1_0 (t : Fin cfg1.N) (y : S1024x2048.Idx) : (((cfg1.win 1).blk t).view.emb y 0).val = (y 0).val := by
  show win1_1.index t (0 : Fin 2) * 1024 + 1 * (y 0).val = (y 0).val
  rw [index1_1 t]; show 0 * 1024 + 1 * (y 0).val = _; omega

theorem emb1_1 (t : Fin cfg1.N) (y : S1024x2048.Idx) : (((cfg1.win 1).blk t).view.emb y 1).val = t.val * 2048 + (y 1).val := by
  show win1_1.index t (1 : Fin 2) * 2048 + 1 * (y 1).val = _
  rw [index1_1 t]; show t.val * 2048 + 1 * (y 1).val = _; omega

theorem flush1_1' : ∀ t : Fin cfg1.N, (cfg1.win 1).flush t = true := (by decide +kernel : ∀ t : Fin grid1.N, win1_1.flush t = true)

/-- The sample's array at the end: each element is what the second kernel computed at its block's point, in its place. -/
theorem arr_sample (c : Dev nD) : (dat1 V c).arrAt 1 cfg1.N
    = fun i => k1_pay1 (grid1.coords (ptOf1 i)) (V (Proc.devRef .tc main_v1_2)) (inOf1 i) :=
  (dat1 V c).arrAt_eq_of_cover 1 _ (fun t _ => by
    show (cfg1.win 1).cut (grid1.coords t) ((dat1 V c).after 1 t) = _
    rw [after1_1, blk1_0]
    funext y
    have hy : (y 1).val < 2048 := (y 1).isLt
    have e0 := emb1_0 t y
    have e1 := emb1_1 t y
    have hp : ptOf1 (((cfg1.win 1).blk t).view.emb y) = t := by
      apply Fin.ext
      show (((cfg1.win 1).blk t).view.emb y 1).val / 2048 = t.val
      rw [e1]; omega
    have hi : inOf1 (((cfg1.win 1).blk t).view.emb y) = y := by
      funext a; apply Fin.ext
      match a with
      | ⟨0, _⟩ => exact e0
      | ⟨1, _⟩ => show (((cfg1.win 1).blk t).view.emb y 1).val % 2048 = (y 1).val; rw [e1]; omega
    show k1_pay1 (grid1.coords t) (V (Proc.devRef .tc main_v1_2)) y
      = k1_pay1 (grid1.coords (ptOf1 (((cfg1.win 1).blk t).view.emb y))) (V (Proc.devRef .tc main_v1_2)) (inOf1 (((cfg1.win 1).blk t).view.emb y))
    rw [hp, hi]) fun i => by
    refine ⟨ptOf1 i, flush1_1' _, ?_⟩
    have h := ((cfg1.win 1).blk (ptOf1 i)).view.emb_mem_set (inOf1 i)
    have hx : ((cfg1.win 1).blk (ptOf1 i)).view.emb (inOf1 i) = i := by
      funext a; apply Fin.ext
      match a with
      | ⟨0, _⟩ => exact emb1_0 (ptOf1 i) (inOf1 i)
      | ⟨1, _⟩ => exact (emb1_1 (ptOf1 i) (inOf1 i)).trans (by show (i 1).val / 2048 * 2048 + (i 1).val % 2048 = (i 1).val; omega)
    rwa [hx] at h

end Cert.KernelIdeal.Own
end
-- ==== Proof.Hash.lean ====
module

public import proofs.«01_k».proof.Proof.Blocks
public import proofs.«01_k».proof.Proof.RefRun

/-! The random words of the kernel's blocks are the reference's, element by element. -/

@[expose] public section

set_option maxRecDepth 16384

noncomputable section

namespace Cert.KernelIdeal.Own

open Cert.KernelIdeal.Gen
open Idealize.ShloMosaic
open Cert.Proof.Threefry (mix inject four four' threefry)

/-- Two arrays of words. -/
abbrev Two := IVec S1024x1024 32 × IVec S1024x1024 32

/-- One round on arrays, the two shift amounts given. -/
def vround (s s' : BitVec 32) (p : Two) : Two :=
  (addi p.1 p.2, xori (addi p.1 p.2) (ori (shli p.2 (broadcast S1024x1024 s)) (shrui p.2 (broadcast S1024x1024 s'))))

/-- A key injection on arrays: one word onto each array. -/
def vinject (a b : BitVec 32) (p : Two) : Two := (addi p.1 (broadcast S1024x1024 a), addi p.2 (broadcast S1024x1024 b))

/-- The four rounds of an even group on arrays. -/
def vfour (p : Two) : Two := vround 6#32 26#32 (vround 26#32 6#32 (vround 15#32 17#32 (vround 13#32 19#32 p)))

/-- The two words at an element. -/
def Two.at (p : Two) (y : S1024x1024.Idx) : BitVec 32 × BitVec 32 := (p.1 y, p.2 y)

theorem vround_at (s s' : BitVec 32) (p : Two) (y : S1024x1024.Idx) (h : s.toNat < 32 ∧ s' = 32#32 - s ∧ s'.toNat < 32) :
    (vround s s' p).at y = mix s (p.at y) := by
  obtain ⟨h1, h2, h3⟩ := h
  subst h2
  refine Prod.ext rfl ?_
  show _ ^^^ (IntOp.shli .vector (p.2 y) s ||| IntOp.shrui .vector (p.2 y) (32#32 - s)) = _
  rw [IntOp.shli, IntOp.shrui, if_pos h1, if_pos h3]
  rfl

theorem vfour_at (p : Two) (y : S1024x1024.Idx) : (vfour p).at y = four (p.at y) := by
  simp (disch := decide) only [vfour, vround_at, four]

theorem vinject_at (a b : BitVec 32) (p : Two) (y : S1024x1024.Idx) : (vinject a b p).at y = ((p.at y).1 + a, (p.at y).2 + b) := rfl

/-- The counters, with the second key word added, after the first group's first round. -/
def start (i : grid0.Coords) : Two := (k0_pay4 i, k0_pay5 i)

/-- Up to the second injection. -/
def upTo2 (i : grid0.Coords) : Two :=
  vinject 466689008#32 2#32 (vround 24#32 8#32 (vround 16#32 16#32 (vround 29#32 3#32 (vround 17#32 15#32
    (vinject 42#32 466689009#32 (vround 6#32 26#32 (vround 26#32 6#32 (vround 15#32 17#32 (start i)))))))))

/-- From there to the middle of the fourth group. -/
def upTo4 (p : Two) : Two := vround 29#32 3#32 (vround 17#32 15#32 (vinject 0#32 45#32 (vfour p)))

theorem w_second (i : grid0.Coords) : wA i = (upTo2 i).2 ∧ wB i = addi (upTo2 i).1 (upTo2 i).2
    ∧ wC i = shli (upTo2 i).2 (broadcast S1024x1024 13#32) := ⟨rfl, rfl, rfl⟩

/-- From there to before the last injection. -/
def upTo5 (p : Two) : Two :=
  vfour (vinject 42#32 466689012#32 (vround 24#32 8#32 (vround 16#32 16#32 p)))

theorem w_fourth (p : Two) :
    k0_pay32 p.2 (addi p.1 p.2) (shli p.2 (broadcast S1024x1024 13#32)) 19#32 = (upTo4 p).2
    ∧ k0_pay33 p.2 (addi p.1 p.2) (shli p.2 (broadcast S1024x1024 13#32)) 19#32 = addi (upTo4 p).1 (upTo4 p).2
    ∧ k0_pay34 p.2 (addi p.1 p.2) (shli p.2 (broadcast S1024x1024 13#32)) 19#32 = shli (upTo4 p).2 (broadcast S1024x1024 16#32) :=
  ⟨rfl, rfl, rfl⟩

theorem w_fifth (p : Two) :
    k0_pay45 p.2 (addi p.1 p.2) (shli p.2 (broadcast S1024x1024 16#32)) 16#32 = (upTo5 p).2
    ∧ k0_pay46 p.2 (addi p.1 p.2) (shli p.2 (broadcast S1024x1024 16#32)) 16#32
      = addi (upTo5 p).1 (broadcast S1024x1024 466689008#32) := ⟨rfl, rfl⟩

/-- The kernel's two words before their last addition are the rounds on arrays. -/
theorem w_last (i : grid0.Coords) : wG i = (upTo5 (upTo4 (upTo2 i))).2
    ∧ wH i = addi (upTo5 (upTo4 (upTo2 i))).1 (broadcast S1024x1024 466689008#32) := by
  obtain ⟨a1, a2, a3⟩ := w_second i
  obtain ⟨b1, b2, b3⟩ := w_fourth (upTo2 i)
  obtain ⟨c1, c2⟩ := w_fifth (upTo4 (upTo2 i))
  have d1 : wD i = (upTo4 (upTo2 i)).2 := by rw [wD, a1, a2, a3, b1]
  have d2 : wE i = addi (upTo4 (upTo2 i)).1 (upTo4 (upTo2 i)).2 := by rw [wE, a1, a2, a3, b2]
  have d3 : wF i = shli (upTo4 (upTo2 i)).2 (broadcast S1024x1024 16#32) := by rw [wF, a1, a2, a3, b3]
  exact ⟨by rw [wG, d1, d2, d3, c1], by rw [wH, d1, d2, d3, c2]⟩

/-- The point of a block. -/
abbrev pt (t : Fin cfg0.N) : grid0.Coords := grid0.coords t

theorem pt_val (t : Fin cfg0.N) : (pt t 0).val = t.val := by
  have ht : t.val < 32 := Nat.lt_of_lt_of_eq t.isLt N_0
  have e0 : (grid0.coords t 0).val = t.val / 1 % 32 := Pipeline.Grid.coords_val t 0 (by decide) rfl
  refine e0.trans ?_
  rw [Nat.div_one, Nat.mod_eq_of_lt ht]

/-- The column numbers of a block. -/
theorem cols_at (t : Fin cfg0.N) (y : S1024x1024.Idx) : k0_pay3 (pt t) y = BitVec.ofNat 32 (outOf t y 1).val := by
  have h1 : (outOf t y 1).val = t.val * 1024 + (y 1).val := rfl
  have h : k0_pay3 (pt t) y = BitVec.ofNat 32 (0 * 1024 + (y 1).val) + BitVec.ofNat 32 (pt t 0).val * 1024#32 := rfl
  rw [h, pt_val, h1]
  apply BitVec.eq_of_toNat_eq
  have ht : t.val < 32 := Nat.lt_of_lt_of_eq t.isLt N_0
  have hy : (y 1).val < 1024 := (y 1).isLt
  generalize (y 1).val = a at *
  generalize t.val = b at *
  simp
  omega

/-- The counters of a block, the second key word added. -/
theorem counter_at (t : Fin cfg0.N) (y : S1024x1024.Idx) :
    k0_pay4 (pt t) y = Cert.Proof.RefRun.counter (outOf t y) + 42#32 := by
  have h : k0_pay4 (pt t) y = BitVec.ofNat 32 (0 * 1024 + (y 0).val) * 32768#32 + k0_pay3 (pt t) y + 42#32 := rfl
  have h0 : (outOf t y 0).val = (y 0).val := rfl
  rw [h, cols_at, Cert.Proof.RefRun.counter, h0]
  have hy : (y 0).val < 1024 := (y 0).isLt
  have h1 : (outOf t y 1).val < 32768 := (outOf t y 1).isLt
  generalize (outOf t y 1).val = a at *
  generalize (y 0).val = b at *
  refine congrArg (· + 42#32) ?_
  apply BitVec.eq_of_toNat_eq
  simp
  omega

/-- The first round of the hash, whose first word is zero. -/
theorem start_at (t : Fin cfg0.N) (y : S1024x1024.Idx) :
    (start (pt t)).at y = mix 13#32 (0#32 + 0#32, Cert.Proof.RefRun.counter (outOf t y) + 42#32) := by
  have h : (start (pt t)).at y = ((vround 13#32 19#32 (broadcast S1024x1024 0#32, k0_pay4 (pt t))).at y) := by
    have e : addi (broadcast S1024x1024 0#32) (k0_pay4 (pt t)) = k0_pay4 (pt t) := by
      funext x; show 0#32 + _ = _; simp
    unfold vround
    rw [e]
    rfl
  rw [h, vround_at _ _ _ _ (by decide)]
  show mix 13#32 (0#32, k0_pay4 (pt t) y) = _
  rw [counter_at]; rfl

/-- The random word of a block's element is the reference's at that element. -/
theorem bits_at (t : Fin cfg0.N) (y : S1024x1024.Idx) :
    wH (pt t) y ^^^ (wG (pt t) y + 5#32) = Cert.Proof.RefRun.bitsAt (outOf t y) := by
  obtain ⟨hG, hH⟩ := w_last (pt t)
  have e1 : wG (pt t) y = ((upTo5 (upTo4 (upTo2 (pt t)))).at y).2 := congrFun hG y
  have e2 : wH (pt t) y = ((upTo5 (upTo4 (upTo2 (pt t)))).at y).1 + 466689008#32 := congrFun hH y
  rw [e1, e2, Cert.Proof.RefRun.bitsAt]
  simp (disch := decide) only [upTo5, upTo4, upTo2, vfour_at, vround_at, vinject_at, start_at]
  simp only [threefry, inject, four', four, BitVec.add_assoc]
  rfl

end Cert.KernelIdeal.Own
end
-- ==== Proof.RowMath.lean ====
module

public import Idealize.ShloMosaic.PureOps.Ideal.Laws
public import Idealize.ShloMosaic.Lib.IdealHost
public import Mathlib.Analysis.SpecialFunctions.Log.Basic
public import Mathlib.Algebra.BigOperators.Fin

/-! The arithmetic of one row, over the reals: the running sums of an online softmax, the two forms of the entropy, the first
place of the largest number, found block by block or by the reference's fold. -/

@[expose] public section

noncomputable section

namespace Cert.Proof.RowMath

open Idealize.ShloMosaic
open scoped BigOperators

/-! ## Folds over a row -/

/-- A nonempty finite row has a first largest entry. -/
theorem exists_top {n : ℕ} (hn : 0 < n) (f : Fin n → ℝ) : ∃ j, ∀ k, f k ≤ f j ∧ (k < j → f k < f j) := by
  have hne : (Finset.univ : Finset (Fin n)).Nonempty := ⟨⟨0, hn⟩, Finset.mem_univ _⟩
  obtain ⟨a, -, ha⟩ := Finset.exists_max_image Finset.univ f hne
  have hne' : (Finset.univ.filter fun k => f a ≤ f k).Nonempty := ⟨a, by simp⟩
  refine ⟨Finset.min' _ hne', fun k => ?_⟩
  have hm : f a ≤ f (Finset.min' _ hne') := (Finset.mem_filter.1 (Finset.min'_mem _ hne')).2
  refine ⟨(ha k (Finset.mem_univ _)).trans hm, fun hk => lt_of_not_ge fun hge => ?_⟩
  exact absurd (Finset.min'_le _ k (Finset.mem_filter.2 ⟨Finset.mem_univ _, hm.trans hge⟩)) (not_le.2 hk)

/-- The fold of the maximum from minus infinity is a largest entry. -/
theorem fold_max {n : ℕ} (f : Fin n → ℝ) (j : Fin n) (h : ∀ k, f k ≤ f j) :
    Finset.univ.fold max (⊥ : EReal) (fun k => (f k : EReal)) = (f j : EReal) := by
  apply le_antisymm
  · exact Finset.fold_max_le _ |>.2 ⟨bot_le, fun k _ => EReal.coe_le_coe_iff.2 (h k)⟩
  · exact Finset.le_fold_max _ |>.2 (.inr ⟨j, Finset.mem_univ _, le_rfl⟩)

/-- The fold of the signed minimum is an entry that is least, the start included. -/
theorem fold_minsi {n : ℕ} (f : Fin n → BitVec 32) (b : BitVec 32) (j : Fin n) (hb : (f j).toInt ≤ b.toInt)
    (h : ∀ k, (f j).toInt ≤ (f k).toInt) [Std.Commutative (α := BitVec 32) IntOp.minsi] [Std.Associative (α := BitVec 32) IntOp.minsi] :
    Finset.univ.fold IntOp.minsi b f = f j := by
  have key : ∀ c x y : BitVec 32, c.toInt ≤ (IntOp.minsi x y).toInt ↔ c.toInt ≤ x.toInt ∧ c.toInt ≤ y.toInt := by
    intro c x y
    unfold IntOp.minsi
    by_cases hxy : x.slt y = true
    · rw [if_pos hxy]
      rw [BitVec.slt_iff_toInt_lt] at hxy
      omega
    · rw [if_neg hxy]
      rw [BitVec.slt_iff_toInt_lt] at hxy
      omega
  have fold := fun c => Finset.fold_op_rel_iff_and (op := IntOp.minsi) (r := fun x y : BitVec 32 => x.toInt ≤ y.toInt)
    (hr := fun {x y z} => key x y z) (c := c) (s := (Finset.univ : Finset (Fin n))) (b := b) (f := f)
  refine BitVec.eq_of_toInt_eq (le_antisymm ?_ ?_)
  · exact ((fold _).1 le_rfl).2 j (Finset.mem_univ _)
  · exact (fold _).2 ⟨hb, fun k _ => h k⟩

/-! ## The running sums -/

/-- A finite sum of reals, read in the extended reals. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- What the three running quantities are after the first `N` columns: nothing yet, or sums against some real reference level. -/
def Ent (l : ℕ → ℝ) (N : ℕ) (mx sm wt : EReal) : Prop :=
  (N = 0 ∧ mx = ⊥ ∧ sm = 0 ∧ wt = 0) ∨
    ∃ M : ℝ, mx = M ∧ sm = ((∑ k ∈ Finset.range N, Real.exp (l k - M) : ℝ) : EReal)
      ∧ wt = ((∑ k ∈ Finset.range N, l k * Real.exp (l k - M) : ℝ) : EReal)

/-- One block's update of the running quantities, its level raised to the maximum of the old one and some real. -/
theorem Ent.step {l : ℕ → ℝ} {N : ℕ} {mx sm wt : EReal} (h : Ent l N mx sm wt) (bm : ℝ) (B : ℕ) :
    Ent l (N + B) (max mx (bm : EReal))
      (sm * Ideal.exp (mx - max mx (bm : EReal))
        + (0 + ∑ k : Fin B, Ideal.exp ((l (N + k.val) : EReal) - max mx (bm : EReal)) * 1))
      (wt * Ideal.exp (mx - max mx (bm : EReal))
        + (0 + ∑ k : Fin B, ((l (N + k.val) : EReal) * Ideal.exp ((l (N + k.val) : EReal) - max mx (bm : EReal))) * 1)) := by
  have sums : ∀ M : ℝ,
      (∑ k : Fin B, Ideal.exp ((l (N + k.val) : EReal) - (M : EReal)) * 1)
          = ((∑ k ∈ Finset.range B, Real.exp (l (N + k) - M) : ℝ) : EReal)
      ∧ (∑ k : Fin B, ((l (N + k.val) : EReal) * Ideal.exp ((l (N + k.val) : EReal) - (M : EReal))) * 1)
          = ((∑ k ∈ Finset.range B, l (N + k) * Real.exp (l (N + k) - M) : ℝ) : EReal) := by
    intro M
    constructor
    · rw [Finset.sum_range, coe_sum]
      refine Finset.sum_congr rfl fun k _ => ?_
      rw [mul_one, ← EReal.coe_sub, Ideal.exp_coe]
    · rw [Finset.sum_range, coe_sum]
      refine Finset.sum_congr rfl fun k _ => ?_
      rw [mul_one, ← EReal.coe_sub, Ideal.exp_coe, ← EReal.coe_mul]
  rcases h with ⟨rfl, rfl, rfl, rfl⟩ | ⟨M, rfl, rfl, rfl⟩
  · right
    have e : max (⊥ : EReal) (bm : EReal) = bm := max_eq_right bot_le
    refine ⟨bm, e, ?_, ?_⟩
    · rw [e, (sums bm).1, zero_mul, zero_add, zero_add, zero_add]
      simp only [zero_add]
    · rw [e, (sums bm).2, zero_mul, zero_add, zero_add, zero_add]
      simp only [zero_add]
  · right
    have e : max (M : EReal) (bm : EReal) = ((max M bm : ℝ) : EReal) := (EReal.coe_strictMono.monotone.map_max).symm
    have sp : ∀ k, Real.exp (l k - max M bm) = Real.exp (l k - M) * Real.exp (M - max M bm) := by
      intro k; rw [← Real.exp_add]; congr 1; ring
    refine ⟨max M bm, e, ?_, ?_⟩
    · rw [e, (sums _).1, ← EReal.coe_sub, Ideal.exp_coe, ← EReal.coe_mul, zero_add, ← EReal.coe_add, Finset.sum_range_add,
        Finset.sum_mul]
      refine congrArg (fun x : ℝ => (x : EReal)) (congrArg (· + _) (Finset.sum_congr rfl fun k _ => (sp k).symm))
    · rw [e, (sums _).2, ← EReal.coe_sub, Ideal.exp_coe, ← EReal.coe_mul, zero_add, ← EReal.coe_add, Finset.sum_range_add,
        Finset.sum_mul]
      refine congrArg (fun x : ℝ => (x : EReal)) (congrArg (· + _) (Finset.sum_congr rfl fun k _ => ?_))
      rw [sp k]; ring

/-! ## The entropy -/

/-- The entropy of the softmax of a row. -/
def entropy (l : ℕ → ℝ) (N : ℕ) : ℝ :=
  Real.log (∑ k ∈ Finset.range N, Real.exp (l k)) - (∑ k ∈ Finset.range N, l k * Real.exp (l k)) / ∑ k ∈ Finset.range N, Real.exp (l k)

/-- A nonempty sum of exponentials is positive. -/
theorem sum_exp_pos (l : ℕ → ℝ) {N : ℕ} (hN : 0 < N) : 0 < ∑ k ∈ Finset.range N, Real.exp (l k) :=
  Finset.sum_pos (fun k _ => Real.exp_pos _) ⟨0, Finset.mem_range.2 hN⟩

/-- Sums against a level are the plain sums, scaled. -/
theorem sum_shift (l : ℕ → ℝ) (N : ℕ) (M : ℝ) :
    (∑ k ∈ Finset.range N, Real.exp (l k - M)) = (∑ k ∈ Finset.range N, Real.exp (l k)) * Real.exp (-M)
    ∧ (∑ k ∈ Finset.range N, l k * Real.exp (l k - M)) = (∑ k ∈ Finset.range N, l k * Real.exp (l k)) * Real.exp (-M) := by
  constructor
  · rw [Finset.sum_mul]
    exact Finset.sum_congr rfl fun k _ => by rw [← Real.exp_add, sub_eq_add_neg]
  · rw [Finset.sum_mul]
    exact Finset.sum_congr rfl fun k _ => by rw [mul_assoc, ← Real.exp_add, sub_eq_add_neg]

/-- The logarithm of a sum against a level. -/
theorem log_shift (l : ℕ → ℝ) {N : ℕ} (hN : 0 < N) (M : ℝ) :
    Real.log (∑ k ∈ Finset.range N, Real.exp (l k - M)) = Real.log (∑ k ∈ Finset.range N, Real.exp (l k)) - M := by
  rw [(sum_shift l N M).1, Real.log_mul (sum_exp_pos l hN).ne' (Real.exp_pos _).ne', Real.log_exp]; ring

/-- The entropy from the running quantities. -/
theorem Ent.entropy {l : ℕ → ℝ} {N : ℕ} {mx sm wt : EReal} (hN : 0 < N) (h : Ent l N mx sm wt) :
    (mx + Ideal.log sm) - Ideal.div wt sm = (entropy l N : EReal) := by
  rcases h with ⟨h0, -⟩ | ⟨M, rfl, rfl, rfl⟩
  · omega
  · have hp := sum_exp_pos (fun k => l k - M) hN
    rw [Ideal.log_coe, if_neg (not_le.2 hp), Ideal.div_coe hp.ne', ← EReal.coe_mul, ← EReal.coe_add, ← EReal.coe_sub]
    refine congrArg (fun x : ℝ => (x : EReal)) ?_
    have hE := (sum_exp_pos l hN).ne'
    have hx := (Real.exp_pos (-M)).ne'
    rw [log_shift l hN, (sum_shift l N M).1, (sum_shift l N M).2, RowMath.entropy]
    field_simp
    ring

/-- The reference's form of the entropy, against any level. -/
theorem ref_entropy (l : ℕ → ℝ) {N : ℕ} (hN : 0 < N) (R : ℝ) :
    -(∑ k ∈ Finset.range N, Real.exp ((l k - R) - Real.log (∑ k ∈ Finset.range N, Real.exp (l k - R)))
        * ((l k - R) - Real.log (∑ k ∈ Finset.range N, Real.exp (l k - R)))) = entropy l N := by
  have hE := sum_exp_pos l hN
  rw [log_shift l hN]
  set E := ∑ k ∈ Finset.range N, Real.exp (l k) with hEdef
  have e : ∀ k, Real.exp ((l k - R) - (Real.log E - R)) * ((l k - R) - (Real.log E - R))
      = (l k * Real.exp (l k)) * (1 / E) - Real.exp (l k) * (Real.log E / E) := by
    intro k
    rw [show (l k - R) - (Real.log E - R) = l k - Real.log E by ring, Real.exp_sub, Real.exp_log hE]
    field_simp
  rw [Finset.sum_congr rfl fun k _ => e k, Finset.sum_sub_distrib, ← Finset.sum_mul, ← Finset.sum_mul, entropy, ← hEdef]
  field_simp
  ring

/-! ## The first place of the largest -/

/-- `k₀` is the first place of the largest of the first `N` numbers. -/
def Top (z : ℕ → ℝ) (N k₀ : ℕ) : Prop := k₀ < N ∧ ∀ k < N, z k ≤ z k₀ ∧ (k < k₀ → z k < z k₀)

/-- What the carried best is after the first `N` columns: nothing yet, or the first largest number and its column. -/
def Best (z : ℕ → ℝ) (N : ℕ) (bv : EReal) (bi : BitVec 32) : Prop :=
  (N = 0 ∧ bv = ⊥) ∨ ∃ k₀, Top z N k₀ ∧ bv = (z k₀ : EReal) ∧ bi = BitVec.ofNat 32 k₀

/-- One block's update of the carried best. -/
theorem Best.step {z : ℕ → ℝ} {N B : ℕ} {bv : EReal} {bi : BitVec 32} (h : Best z N bv bi) (j : ℕ) (hj : Top (fun k => z (N + k)) B j) :
    Best z (N + B) (if bv < (z (N + j) : EReal) then (z (N + j) : EReal) else bv)
      (if bv < (z (N + j) : EReal) then BitVec.ofNat 32 (N + j) else bi) := by
  obtain ⟨hjB, hj⟩ := hj
  beta_reduce at hj
  rcases h with ⟨rfl, rfl⟩ | ⟨k₀, ⟨hk, htop⟩, rfl, rfl⟩
  · right
    rw [if_pos (EReal.bot_lt_coe _), if_pos (EReal.bot_lt_coe _)]
    refine ⟨0 + j, ⟨by omega, fun k hk => ?_⟩, rfl, rfl⟩
    have := hj k (by omega)
    simp only [zero_add] at this ⊢
    exact this
  · right
    by_cases hlt : z k₀ < z (N + j)
    · rw [if_pos (EReal.coe_lt_coe_iff.2 hlt), if_pos (EReal.coe_lt_coe_iff.2 hlt)]
      refine ⟨N + j, ⟨by omega, fun k hk' => ?_⟩, rfl, rfl⟩
      by_cases hkN : k < N
      · have := (htop k hkN).1
        exact ⟨by linarith, fun _ => by linarith⟩
      · have := hj (k - N) (by omega)
        rw [show N + (k - N) = k by omega] at this
        exact ⟨this.1, fun h => this.2 (by omega)⟩
    · rw [if_neg (fun h => hlt (EReal.coe_lt_coe_iff.1 h)), if_neg (fun h => hlt (EReal.coe_lt_coe_iff.1 h))]
      refine ⟨k₀, ⟨by omega, fun k hk' => ?_⟩, rfl, rfl⟩
      by_cases hkN : k < N
      · exact htop k hkN
      · have := (hj (k - N) (by omega)).1
        rw [show N + (k - N) = k by omega] at this
        exact ⟨by linarith, fun h => by omega⟩

/-- The first place of the largest is one. -/
theorem Top.unique {z : ℕ → ℝ} {N a b : ℕ} (ha : Top z N a) (hb : Top z N b) : a = b := by
  rcases lt_trichotomy a b with h | h | h
  · have := (hb.2 a ha.1).2 h; have := (ha.2 b hb.1).1; linarith
  · exact h
  · have := (ha.2 b hb.1).2 h; have := (hb.2 a ha.1).1; linarith

/-! ## The reference's fold -/

/-- A pair stays below another: smaller, or equal with a later place. -/
def Below (a b : EReal × BitVec 32) : Prop := a.1 < b.1 ∨ (a.1 = b.1 ∧ b.2.toInt < a.2.toInt)

/-- A fold that keeps the better of two pairs ends with the best pair of its list. -/
theorem fold_best (f : EReal × BitVec 32 → EReal × BitVec 32 → EReal × BitVec 32) (p : EReal × BitVec 32)
    (hf : ∀ a b, f a b = a ∨ f a b = b) (hl : ∀ q, Below q p → f p q = p) (hr : ∀ q, Below q p → f q p = p) :
    ∀ (l : List (EReal × BitVec 32)) (acc : EReal × BitVec 32), (∀ q ∈ l, q = p ∨ Below q p) → (acc = p ∨ (Below acc p ∧ p ∈ l)) →
      l.foldl f acc = p := by
  have hpp : f p p = p := (hf p p).elim id id
  intro l
  induction l with
  | nil => rintro acc - (h | ⟨-, h⟩)
           · exact h
           · exact absurd h (List.not_mem_nil)
  | cons q l ih =>
    intro acc hq hacc
    rw [List.foldl_cons]
    apply ih _ (fun x hx => hq x (List.mem_cons_of_mem _ hx))
    rcases hq q List.mem_cons_self with rfl | hb
    · left
      rcases hacc with rfl | ⟨h, -⟩
      · exact hpp
      · exact hr _ h
    · rcases hacc with rfl | ⟨h, hm⟩
      · exact .inl (hl _ hb)
      · right
        refine ⟨?_, ?_⟩
        · rcases hf acc q with e | e <;> rw [e]
          · exact h
          · exact hb
        · rcases List.mem_cons.1 hm with rfl | hm
          · rcases hb with hb | ⟨-, hb⟩
            · exact absurd hb (lt_irrefl _)
            · exact absurd hb (lt_irrefl _)
          · exact hm

end Cert.Proof.RowMath

end
-- ==== Proof.Words.lean ====
module

public import proofs.«01_k».proof.Proof.RefRun
public import proofs.«01_k».proof.Proof.RowMath

/-! The numbers that words denote, and the Gumbel numbers: each a real, built from the uniform number of its element. -/

@[expose] public section

set_option maxRecDepth 16384

noncomputable section

namespace Cert.Proof.Words

open Idealize.ShloMosaic
open Cert.Proof.RefRun
open Cert.ReferenceIdeal Cert.ReferenceIdeal.Gen

/-- The word of minus infinity. -/
theorem ofBits_ninf : Ideal.ofBits .f32 0xFF800000#32 = (⊥ : EReal) := by
  show Ideal.ieee 8 23 0xFF800000#32 = (⊥ : EReal)
  unfold Ideal.ieee
  have h1 : (BitVec.extractLsb' 23 8 0xFF800000#32).toNat = 2 ^ 8 - 1 := by decide
  have h2 : (BitVec.extractLsb' 0 23 0xFF800000#32).toNat = 0 := by decide
  have h3 : (BitVec.extractLsb' (8 + 23) 1 0xFF800000#32 == 1#1) = true := by decide
  simp only [h1, h2, h3, if_true]

/-- The word of plus infinity. -/
theorem ofBits_inf : Ideal.ofBits .f32 0x7F800000#32 = (⊤ : EReal) := by
  show Ideal.ieee 8 23 0x7F800000#32 = (⊤ : EReal)
  unfold Ideal.ieee
  have h1 : (BitVec.extractLsb' 23 8 0x7F800000#32).toNat = 2 ^ 8 - 1 := by decide
  have h2 : (BitVec.extractLsb' 0 23 0x7F800000#32).toNat = 0 := by decide
  have h3 : (BitVec.extractLsb' (8 + 23) 1 0x7F800000#32 == 1#1) = false := by decide
  simp [h1, h2, h3]

/-- The word of one. -/
theorem ofBits_one : Ideal.ofBits .f32 0x3F800000#32 = (1 : EReal) := Ideal.ofBits_one_f32

/-- The word of zero. -/
theorem ofBits_zero : Ideal.ofBits .f32 0x00000000#32 = (0 : EReal) := Ideal.ofBits_zero_f32

/-- The small number that keeps the uniform numbers from zero. -/
def small : ℝ := (2 ^ 23 + 6022911) * (2 : ℝ) ^ (-57 : ℤ)

theorem small_pos : 0 < small := by unfold small; positivity

theorem small_lt : small < 1 / 2 ^ 23 := by
  unfold small
  norm_num [zpow_neg]

/-- Its word. -/
theorem ofBits_small : Ideal.ofBits .f32 0x2EDBE6FF#32 = (small : EReal) := by
  show Ideal.ieee 8 23 0x2EDBE6FF#32 = (small : EReal)
  unfold Ideal.ieee
  have h1 : (BitVec.extractLsb' 23 8 0x2EDBE6FF#32).toNat = 93 := by decide
  have h2 : (BitVec.extractLsb' 0 23 0x2EDBE6FF#32).toNat = 6022911 := by decide
  have h3 : (BitVec.extractLsb' (8 + 23) 1 0x2EDBE6FF#32 == 1#1) = false := by decide
  simp only [h1, h2, h3]
  rw [if_neg (by decide), if_neg (by decide)]
  refine congrArg (fun x : ℝ => (x : EReal)) ?_
  unfold small
  norm_num

/-- A word of 23 bits under the exponent of one: one plus that many parts of `2^23`. -/
theorem ofBits_unit (w : BitVec 32) :
    Ideal.ofBits .f32 ((w >>> 9#32) ||| 1065353216#32) = ((1 + (w.toNat / 2 ^ 9 : ℕ) / 2 ^ 23 : ℝ) : EReal) := by
  show Ideal.ieee 8 23 ((w >>> 9#32) ||| 1065353216#32) = _
  unfold Ideal.ieee
  have hn : w.toNat / 2 ^ 9 < 2 ^ 23 := by have := w.isLt; omega
  have hw : ((w >>> 9#32) ||| 1065353216#32).toNat = 2 ^ 23 * 127 + w.toNat / 2 ^ 9 := by
    rw [Nat.two_pow_add_eq_or_of_lt hn, BitVec.toNat_or, Nat.or_comm, BitVec.ushiftRight_eq', BitVec.toNat_ushiftRight, Nat.shiftRight_eq_div_pow]
    rfl
  generalize w.toNat / 2 ^ 9 = n at hn hw ⊢
  generalize (w >>> 9#32) ||| 1065353216#32 = v at hw ⊢
  have h1 : (BitVec.extractLsb' 23 8 v).toNat = 127 := by
    rw [BitVec.extractLsb'_toNat, hw, Nat.shiftRight_eq_div_pow]; omega
  have h2 : (BitVec.extractLsb' 0 23 v).toNat = n := by
    rw [BitVec.extractLsb'_toNat, hw, Nat.shiftRight_eq_div_pow]; omega
  have h3 : (BitVec.extractLsb' (8 + 23) 1 v == 1#1) = false := by
    have h : (BitVec.extractLsb' (8 + 23) 1 v).toNat = 0 := by
      rw [BitVec.extractLsb'_toNat, hw, Nat.shiftRight_eq_div_pow]; omega
    rw [BitVec.eq_of_toNat_eq (y := 0#1) h]; rfl
  simp only [h1, h2, h3]
  rw [if_neg (by decide), if_neg (by decide)]
  refine congrArg (fun x : ℝ => (x : EReal)) ?_
  push_cast
  norm_num
  ring

/-- The uniform number of `[0, 1)` of an element. -/
def unit (i : S1024x32768.Idx) : ℝ := ((bitsAt i).toNat / 2 ^ 9 : ℕ) / 2 ^ 23

theorem unit_nonneg (i : S1024x32768.Idx) : 0 ≤ unit i := by unfold unit; positivity

theorem unit_le (i : S1024x32768.Idx) : unit i ≤ 1 - 1 / 2 ^ 23 := by
  unfold unit
  have hn : (bitsAt i).toNat / 2 ^ 9 ≤ 2 ^ 23 - 1 := by have := (bitsAt i).isLt; omega
  have : (((bitsAt i).toNat / 2 ^ 9 : ℕ) : ℝ) ≤ ((2 ^ 23 - 1 : ℕ) : ℝ) := Nat.cast_le.2 hn
  rw [div_le_iff₀ (by norm_num)]
  refine this.trans ?_
  norm_num

/-- The word's number less one. -/
theorem unit_word (w : BitVec 32) (i : S1024x32768.Idx) (h : w = bitsAt i) :
    Ideal.ofBits .f32 ((w >>> 9#32) ||| 1065353216#32) - (1 : EReal) = (unit i : EReal) := by
  rw [ofBits_unit, h]
  refine (EReal.coe_sub _ 1).symm.trans (congrArg (fun x : ℝ => (x : EReal)) ?_)
  unfold unit; ring

theorem unitAt_eq (i : S1024x32768.Idx) : unitAt (F := Ideal) i = (unit i : EReal) := by
  unfold unitAt
  show Ideal.ofBits .f32 ((bitsAt i >>> 9#32) ||| 1065353216#32) - Ideal.ofBits .f32 0x3F800000#32 = _
  rw [ofBits_one]
  exact unit_word _ i rfl

/-- The uniform number of an element, kept from zero. -/
def unif (i : S1024x32768.Idx) : ℝ := max small (unit i + small)

theorem unif_pos (i : S1024x32768.Idx) : 0 < unif i := lt_max_of_lt_left small_pos

theorem unif_lt_one (i : S1024x32768.Idx) : unif i < 1 := by
  have h1 := unit_le i
  have h2 := small_lt
  have h3 : (1 : ℝ) / 2 ^ 23 < 1 := by norm_num
  exact max_lt (by linarith) (by linarith)

/-- The Gumbel number of an element. -/
def noise (i : S1024x32768.Idx) : ℝ := -Real.log (-Real.log (unif i))

theorem coe_max (a b : ℝ) : max (a : EReal) (b : EReal) = ((max a b : ℝ) : EReal) := (EReal.coe_strictMono.monotone.map_max).symm

theorem refUnif_eq (i : S1024x32768.Idx) : refUnif (F := Ideal) i = (unif i : EReal) := by
  unfold refUnif
  show max (Ideal.ofBits .f32 0x2EDBE6FF#32) (max (Ideal.ofBits .f32 0x00000000#32)
      (unitAt (F := Ideal) i * (Ideal.ofBits .f32 0x3F800000#32 - Ideal.ofBits .f32 0x00000000#32) + Ideal.ofBits .f32 0x00000000#32)
      * Ideal.ofBits .f32 0x3F800000#32 + Ideal.ofBits .f32 0x2EDBE6FF#32) = _
  rw [ofBits_small, ofBits_zero, ofBits_one, unitAt_eq, sub_zero, mul_one, add_zero, mul_one,
    max_eq_right (EReal.coe_nonneg.2 (unit_nonneg i)), ← EReal.coe_add, coe_max]
  rfl

/-- The two logarithms of a uniform number are of positive reals. -/
theorem log_log (i : S1024x32768.Idx) : Ideal.log (-Ideal.log (unif i : EReal)) = ((Real.log (-Real.log (unif i)) : ℝ) : EReal) := by
  have h : Real.log (unif i) < 0 := Real.log_neg (unif_pos i) (unif_lt_one i)
  rw [Ideal.log_coe, if_neg (not_le.2 (unif_pos i)), ← EReal.coe_neg, Ideal.log_coe, if_neg (by linarith)]

/-- A Gumbel number, operation by operation, at any instance. -/
theorem refNoise_apply {F : FTy → Type} [FloatOps F] (i : S1024x32768.Idx) :
    refNoise (F := F) i = FloatOps.hostNegf (FloatOps.hostUnary .log (FloatOps.hostNegf (FloatOps.hostUnary .log (refUnif (F := F) i)))) := rfl

theorem refNoise_eq (i : S1024x32768.Idx) : refNoise (F := Ideal) i = (noise i : EReal) := by
  rw [refNoise_apply, refUnif_eq]
  simp only [Ideal.hostNegf_def, Ideal.negf_def, Ideal.hostUnary_log_def]
  rw [log_log, ← EReal.coe_neg, noise]

end Cert.Proof.Words

end
-- ==== Proof.Step.lean ====
module

public import proofs.«01_k».proof.Proof.Hash
public import proofs.«01_k».proof.Proof.Words
public import Idealize.ShloMosaic.Lib.MatmulPlain

/-! One block's update of the carried state, at the ideal instance, row by row: the running sums and the best column so far. -/

@[expose] public section

set_option maxRecDepth 16384

noncomputable section

namespace Cert.KernelIdeal.Own

open Cert.KernelIdeal.Gen
open Idealize.ShloMosaic Idealize.ShloMosaic.ValueIdx
open Cert.Proof.RowMath Cert.Proof.Words
open scoped BigOperators

/-! ## Layout operations read at a row -/

section Layout
variable {α : Type}

theorem cast_row (x : S1024.Idx → α) (r : Fin 1024) :
    shapeCast S1024x1 x shapeCasts_S1024_S1024x1 (ix2 r 0) = x (ix1 r) :=
  shapeCast_apply x _ _ _ (by
    rw [Shape.rowMajor_val_one, Shape.rowMajor_val_two]
    show r.val = r.val * 1 + 0
    omega)

theorem spread_row (x : S1024x1.Idx → α) (r : Fin 1024) (k : Fin 1024) :
    broadcastTo S1024x1024 x broadcasts_S1024x1_S1024x1024 (ix2 r k) = x (ix2 r 0) :=
  broadcastTo_apply x _ _ _ (fun a => match a with | ⟨0, _⟩ => rfl | ⟨1, _⟩ => rfl)

theorem slice_row (x : S1024x8.Idx → α) (r : Fin 1024) :
    extractStridedSlice S1024x1 ![0, 0] x slices_S1024x8_o0_0_S1024x1 (ix2 r 0) = x (ix2 r 0) :=
  extractStridedSlice_apply _ x _ _ _ (fun a => match a with
    | ⟨0, _⟩ => (Nat.zero_add _).symm
    | ⟨1, _⟩ => (Nat.zero_add _).symm)

end Layout

theorem lift_row (r k : Fin 1024) : reduces_S1024x1024_S1024.lift (ix1 r) k = ix2 r k := by
  funext a
  match a with
  | ⟨0, _⟩ => rfl
  | ⟨1, _⟩ => rfl

/-- A row's largest. -/
theorem rowMax_at (x : FVec Ideal S1024x1024 .f32) (r : Fin 1024) :
    multiReduction .maximumf [1] S1024 x 0xFF800000#32 reduces_S1024x1024_S1024 (.inl rfl) rfl (ix1 r)
      = Finset.univ.fold max (⊥ : EReal) (fun k : Fin 1024 => x (ix2 r k)) := by
  refine (Ideal.multiReduction_maximumf_single x 0xFF800000#32 reduces_S1024x1024_S1024 (.inl rfl) rfl (ix1 r)).trans ?_
  rw [Ideal.ofBits_def, ofBits_ninf]
  refine congrArg (Finset.univ.fold max (⊥ : EReal)) (funext fun k : Fin 1024 => ?_)
  exact congrArg x (lift_row r k)

/-- A row's signed minimum. -/
theorem rowMin_at (x : IVec S1024x1024 32) (r : Fin 1024) :
    multiReductionI .minsi [1] S1024 x 2147483647#32 reduces_S1024x1024_S1024 rfl (ix1 r)
      = Finset.univ.fold IntOp.minsi 2147483647#32 (fun k : Fin 1024 => x (ix2 r k)) := by
  refine (multiReductionI_eq_fold .minsi x 2147483647#32 reduces_S1024x1024_S1024 rfl (ix1 r)).trans ?_
  refine (reduces_S1024x1024_S1024.fold_filter_drop_single IntOp.minsi 2147483647#32 x (ix1 r)).trans ?_
  refine congrArg (Finset.univ.fold IntOp.minsi 2147483647#32) (funext fun k : Fin 1024 => ?_)
  exact congrArg x (lift_row r k)

/-- A row's sum, as the product with the array of ones computes it. -/
theorem rowSum_at (x : FVec Ideal S1024x1024 .f32) (r : Fin 1024) :
    extractStridedSlice S1024x1 ![0, 0]
        (matmul dot_S1024x1024_S1024x8_S1024x8_1_0_0_1_n_n none x (k0_pay59 (F := Ideal)) (constant S1024x8 .f32 0x00000000#32))
        slices_S1024x8_o0_0_S1024x1 (ix2 r 0)
      = (0 + ∑ k : Fin 1024, x (ix2 r k) * 1 : EReal) := by
  rw [slice_row]
  refine (Ideal.matmul_plain_apply (M := 1024) (K := 1024) (N := 8) none x (k0_pay59 (F := Ideal)) (constant S1024x8 .f32 0x00000000#32) r 0).trans ?_
  have h0 : (constant S1024x8 .f32 0x00000000#32 : FVec Ideal S1024x8 .f32) (ix2 r 0) = (0 : EReal) := ofBits_zero
  have h1 : ∀ k : Fin 1024, (k0_pay59 (F := Ideal)) (ix2 k 0) = (1 : EReal) := fun k => ofBits_one
  rw [h0]
  refine congrArg ((0 : EReal) + ·) (Finset.sum_congr rfl fun k _ => ?_)
  rw [h1]

/-! ## The parts of a step -/

theorem pay56_at (L : FVec Ideal S1024x1024 .f32) (mx : FVec Ideal S1024x1 .f32) (r : Fin 1024) :
    k0_pay56 L mx (ix2 r 0) = max (mx (ix2 r 0)) (Finset.univ.fold max (⊥ : EReal) (fun k : Fin 1024 => L (ix2 r k))) := by
  refine (Ideal.maximumf_def _ _).trans (congrArg (max (mx (ix2 r 0))) ?_)
  exact (cast_row _ r).trans (rowMax_at L r)

theorem pay57_at (L : FVec Ideal S1024x1024 .f32) (mx : FVec Ideal S1024x1 .f32) (r k : Fin 1024) :
    k0_pay57 L mx (ix2 r k) = Ideal.exp ((L (ix2 r k) : EReal) - k0_pay56 L mx (ix2 r 0)) := by
  refine (Ideal.exp_def _).trans (congrArg Ideal.exp ((Ideal.subf_def _ _).trans ?_))
  exact congrArg (fun y : EReal => (L (ix2 r k) : EReal) - y) (spread_row _ r k)

theorem pay58_at (L : FVec Ideal S1024x1024 .f32) (mx : FVec Ideal S1024x1 .f32) (r : Fin 1024) :
    k0_pay58 L mx (ix2 r 0) = Ideal.exp ((mx (ix2 r 0) : EReal) - k0_pay56 L mx (ix2 r 0)) :=
  (Ideal.exp_def _).trans (congrArg Ideal.exp (Ideal.subf_def _ _))

theorem pay61_at (L : FVec Ideal S1024x1024 .f32) (mx sm : FVec Ideal S1024x1 .f32) (r : Fin 1024) :
    k0_pay61 (k0_pay58 L mx) (k0_pay60 L mx) sm (ix2 r 0)
      = ((sm (ix2 r 0) : EReal) * k0_pay58 L mx (ix2 r 0) + (0 + ∑ k : Fin 1024, (k0_pay57 L mx (ix2 r k) : EReal) * 1) : EReal) := by
  unfold k0_pay61
  rw [shapeCast_self]
  refine (Ideal.addf_def _ _).trans ?_
  exact congrArg₂ (fun a b : EReal => a + b) (Ideal.mulf_def _ _) (rowSum_at (k0_pay57 L mx) r)

theorem pay62_at (L e : FVec Ideal S1024x1024 .f32) (a wt : FVec Ideal S1024x1 .f32) (r : Fin 1024) :
    k0_pay62 L e a (k0_pay59 (F := Ideal)) wt (ix2 r 0)
      = ((wt (ix2 r 0) : EReal) * a (ix2 r 0) + (0 + ∑ k : Fin 1024, ((L (ix2 r k) : EReal) * e (ix2 r k)) * 1) : EReal) := by
  unfold k0_pay62
  rw [shapeCast_self]
  refine (Ideal.addf_def _ _).trans ?_
  exact congrArg₂ (fun a b : EReal => a + b) (Ideal.mulf_def _ _) (rowSum_at (mulf L e) r)

/-- A block's perturbed logits, operation by operation, at any instance. -/
theorem pay48_apply {F : FTy → Type} [FloatOps F] (L : FVec F S1024x1024 .f32) (g h : IVec S1024x1024 32) (y : S1024x1024.Idx) :
    k0_pay48 L g h k0_pay47 y = FloatOps.addf (L y) (FloatOps.subf (FloatOps.ofBits .f32 0x00000000#32) (FloatOps.log
      (FloatOps.subf (FloatOps.ofBits .f32 0x00000000#32) (FloatOps.log
        (FloatOps.maximumf (FloatOps.ofBits .f32 0x2EDBE6FF#32) (FloatOps.addf (FloatOps.subf
          (FloatOps.ofBits .f32 (IntOp.shrui .vector (h y ^^^ (g y + 5#32)) 9#32 ||| 1065353216#32))
          (FloatOps.ofBits .f32 0x3F800000#32)) (FloatOps.ofBits .f32 0x2EDBE6FF#32))))))) := rfl

/-- A block's perturbed logits: the logit and the Gumbel number of the element. -/
theorem pay48_at (t : Fin cfg0.N) (L : FVec Ideal S1024x1024 .f32) (y : S1024x1024.Idx) :
    k0_pay48 L (wG (pt t)) (wH (pt t)) k0_pay47 y = ((L y : EReal) + (noise (outOf t y) : EReal) : EReal) := by
  rw [pay48_apply, bits_at]
  have hs : IntOp.shrui .vector (Cert.Proof.RefRun.bitsAt (outOf t y)) 9#32 = Cert.Proof.RefRun.bitsAt (outOf t y) >>> 9#32 := by
    rw [IntOp.shrui, if_pos (by decide)]
  rw [hs]
  simp only [Ideal.addf_def, Ideal.subf_def, Ideal.log_def, Ideal.maximumf_def, Ideal.ofBits_def]
  rw [ofBits_one, ofBits_zero, ofBits_small, unit_word _ _ rfl, ← EReal.coe_add, coe_max, zero_sub, zero_sub]
  have hu : max small (unit (outOf t y) + small) = unif (outOf t y) := rfl
  rw [hu, log_log, ← EReal.coe_neg]
  rfl

theorem pay49_at (L : FVec Ideal S1024x1024 .f32) (g h v : IVec S1024x1024 32) (r : Fin 1024) :
    k0_pay49 L g h v (ix2 r 0) = Finset.univ.fold max (⊥ : EReal) (fun k : Fin 1024 => k0_pay48 L g h v (ix2 r k)) := by
  unfold k0_pay49
  exact (cast_row _ r).trans (rowMax_at _ r)

theorem pay50_at (L : FVec Ideal S1024x1024 .f32) (c g h v : IVec S1024x1024 32) (r : Fin 1024) :
    k0_pay50 L c g h v (ix2 r 0) = Finset.univ.fold IntOp.minsi 2147483647#32 (fun k : Fin 1024 =>
      (select (cmpf .oge (k0_pay48 L g h v) (broadcastTo S1024x1024 (k0_pay49 L g h v) broadcasts_S1024x1_S1024x1024)) c
        (broadcast S1024x1024 2147483647#32)) (ix2 r k)) := by
  unfold k0_pay50
  exact (cast_row _ r).trans (rowMin_at _ r)

theorem cmp_at (B bv : FVec Ideal S1024x1 .f32) (r : Fin 1024) :
    k0_pay64 B bv (ix2 r 0) = BitVec.ofBool (decide ((bv (ix2 r 0) : EReal) < B (ix2 r 0))) := rfl

theorem choose {α : Type} (p : Prop) [Decidable p] (a b : α) : Scalar.select (BitVec.ofBool (decide p)) a b = if p then a else b := by
  by_cases h : p
  · rw [if_pos h, decide_eq_true h]; rfl
  · rw [if_neg h, decide_eq_false h]; rfl

theorem pay65_at (B bv : FVec Ideal S1024x1 .f32) (r : Fin 1024) :
    k0_pay65 B bv bv (ix2 r 0) = if (bv (ix2 r 0) : EReal) < B (ix2 r 0) then B (ix2 r 0) else bv (ix2 r 0) := by
  unfold k0_pay65
  rw [shapeCast_self, select_apply, cmp_at, choose]

theorem pay66_at (B bv : FVec Ideal S1024x1 .f32) (C bi : IVec S1024x1 32) (r : Fin 1024) :
    k0_pay66 B C bv bi (ix2 r 0) = if (bv (ix2 r 0) : EReal) < B (ix2 r 0) then C (ix2 r 0) else bi (ix2 r 0) := by
  unfold k0_pay66
  rw [shapeCast_self, select_apply, cmp_at, choose]

section
variable {F : FTy → Type} [FloatOps F] (i : grid0.Coords) (L : FVec F S1024x1024 .f32) (st : St F)

theorem step_mx : (st.step i L).mx = k0_pay63 (k0_pay56 L st.mx) := rfl
theorem step_sm : (st.step i L).sm = k0_pay61 (k0_pay58 L st.mx) (k0_pay60 L st.mx) st.sm := rfl
theorem step_wt : (st.step i L).wt = k0_pay62 L (k0_pay57 L st.mx) (k0_pay58 L st.mx) (k0_pay59 (F := F)) st.wt := rfl
theorem step_bv : (st.step i L).bv = k0_pay65 (k0_pay49 L (wG i) (wH i) k0_pay47) st.bv st.bv := rfl
theorem step_bi : (st.step i L).bi
    = k0_pay66 (k0_pay49 L (wG i) (wH i) k0_pay47) (k0_pay50 L (k0_pay3 i) (wG i) (wH i) k0_pay47) st.bv st.bi := rfl

end

/-! ## The step -/

/-- A row's Gumbel numbers by column. -/
def gumbel (r : Fin 1024) (k : ℕ) : ℝ := if h : k < 32768 then noise (ix2 r ⟨k, h⟩) else 0

theorem gumbel_at (t : Fin cfg0.N) (r k : Fin 1024) : gumbel r (t.val * 1024 + k.val) = noise (outOf t (ix2 r k)) := by
  have hk := k.isLt
  have ht : t.val < 32 := Nat.lt_of_lt_of_eq t.isLt N_0
  unfold gumbel
  rw [dif_pos (by omega)]
  congr 1
  funext a
  match a with
  | ⟨0, _⟩ => rfl
  | ⟨1, _⟩ => rfl

/-- A row's perturbed logits by column. -/
def perturbed (l : Fin 1024 → ℕ → ℝ) (r : Fin 1024) (k : ℕ) : ℝ := l r k + gumbel r k

/-- What the carried state is after the first `N` columns, of the rows `l` of logits. -/
def Inv (l : Fin 1024 → ℕ → ℝ) (N : ℕ) (st : St Ideal) : Prop := ∀ r : Fin 1024,
  Ent (l r) N (st.mx (ix2 r 0)) (st.sm (ix2 r 0)) (st.wt (ix2 r 0))
    ∧ Best (perturbed l r) N (st.bv (ix2 r 0)) (st.bi (ix2 r 0))

/-- The state the first block starts from. -/
theorem Inv.init (l : Fin 1024 → ℕ → ℝ) : Inv l 0 St.init := fun r =>
  ⟨.inl ⟨rfl, (ofBits_ninf : _), (ofBits_zero : _), (ofBits_zero : _)⟩, .inl ⟨rfl, (ofBits_ninf : _)⟩⟩

section
variable (t : Fin cfg0.N) (L : FVec Ideal S1024x1024 .f32) (l : Fin 1024 → ℕ → ℝ)
  (hL : ∀ r k : Fin 1024, L (ix2 r k) = ((l r (t.val * 1024 + k.val) : ℝ) : EReal))
include hL

/-- The running sums of a row after one more block. -/
theorem ent_step (st : St Ideal) (r : Fin 1024) (h : Ent (l r) (t.val * 1024) (st.mx (ix2 r 0)) (st.sm (ix2 r 0)) (st.wt (ix2 r 0))) :
    Ent (l r) (t.val * 1024 + 1024) ((st.step (pt t) L).mx (ix2 r 0)) ((st.step (pt t) L).sm (ix2 r 0)) ((st.step (pt t) L).wt (ix2 r 0)) := by
  obtain ⟨j, hj⟩ := exists_top (n := 1024) (by decide) (fun k : Fin 1024 => l r (t.val * 1024 + k.val))
  have hm : k0_pay56 L st.mx (ix2 r 0) = max (st.mx (ix2 r 0) : EReal) ((l r (t.val * 1024 + j.val) : ℝ) : EReal) := by
    rw [pay56_at]
    refine congrArg (max (st.mx (ix2 r 0) : EReal)) ?_
    simp only [hL]
    exact fold_max (fun k : Fin 1024 => l r (t.val * 1024 + k.val)) j (fun k => (hj k).1)
  have h' := h.step (l r (t.val * 1024 + j.val)) 1024
  rw [← hm] at h'
  have e1 : (st.step (pt t) L).mx (ix2 r 0) = k0_pay56 L st.mx (ix2 r 0) := by
    rw [step_mx]
    unfold k0_pay63
    rw [shapeCast_self]
  have e2 := pay61_at L st.mx st.sm r
  have e3 := pay62_at L (k0_pay57 L st.mx) (k0_pay58 L st.mx) st.wt r
  simp only [pay57_at, pay58_at, hL] at e2 e3
  rw [e1, step_sm, step_wt]
  rw [e2, e3]
  exact h'

/-- The best column of a row after one more block. -/
theorem best_step (st : St Ideal) (r : Fin 1024) (h : Best (perturbed l r) (t.val * 1024) (st.bv (ix2 r 0)) (st.bi (ix2 r 0))) :
    Best (perturbed l r) (t.val * 1024 + 1024) ((st.step (pt t) L).bv (ix2 r 0)) ((st.step (pt t) L).bi (ix2 r 0)) := by
  have ht : t.val < 32 := Nat.lt_of_lt_of_eq t.isLt N_0
  obtain ⟨j, hj⟩ := exists_top (n := 1024) (by decide) (fun k : Fin 1024 => perturbed l r (t.val * 1024 + k.val))
  have hz : ∀ k : Fin 1024, k0_pay48 L (wG (pt t)) (wH (pt t)) k0_pay47 (ix2 r k) = ((perturbed l r (t.val * 1024 + k.val) : ℝ) : EReal) := by
    intro k
    rw [pay48_at, hL, ← gumbel_at, ← EReal.coe_add]; rfl
  have hB : k0_pay49 L (wG (pt t)) (wH (pt t)) k0_pay47 (ix2 r 0) = ((perturbed l r (t.val * 1024 + j.val) : ℝ) : EReal) := by
    rw [pay49_at]
    simp only [hz]
    exact fold_max (fun k : Fin 1024 => perturbed l r (t.val * 1024 + k.val)) j (fun k => (hj k).1)
  have hcol : ∀ k : Fin 1024, k0_pay3 (pt t) (ix2 r k) = BitVec.ofNat 32 (t.val * 1024 + k.val) := fun k => cols_at t (ix2 r k)
  have hsel : ∀ k : Fin 1024, (select (cmpf .oge (k0_pay48 L (wG (pt t)) (wH (pt t)) k0_pay47)
        (broadcastTo S1024x1024 (k0_pay49 L (wG (pt t)) (wH (pt t)) k0_pay47) broadcasts_S1024x1_S1024x1024)) (k0_pay3 (pt t)) (broadcast S1024x1024 2147483647#32)) (ix2 r k)
      = if perturbed l r (t.val * 1024 + j.val) ≤ perturbed l r (t.val * 1024 + k.val) then BitVec.ofNat 32 (t.val * 1024 + k.val) else 2147483647#32 := by
    intro k
    rw [select_apply, cmpf_apply, spread_row, hB, hz, hcol, Ideal.cmpf_def]
    by_cases hle : perturbed l r (t.val * 1024 + j.val) ≤ perturbed l r (t.val * 1024 + k.val)
    · rw [if_pos hle]
      have : Ideal.cmp .oge ((perturbed l r (t.val * 1024 + k.val) : ℝ) : EReal) ((perturbed l r (t.val * 1024 + j.val) : ℝ) : EReal) = 1#1 := by
        simp [Ideal.cmp, hle]
      rw [this]; rfl
    · rw [if_neg hle]
      have : Ideal.cmp .oge ((perturbed l r (t.val * 1024 + k.val) : ℝ) : EReal) ((perturbed l r (t.val * 1024 + j.val) : ℝ) : EReal) = 0#1 := by
        simp [Ideal.cmp, hle]
      rw [this]; rfl
  have hC : k0_pay50 L (k0_pay3 (pt t)) (wG (pt t)) (wH (pt t)) k0_pay47 (ix2 r 0) = BitVec.ofNat 32 (t.val * 1024 + j.val) := by
    rw [pay50_at]
    simp only [hsel]
    have hint : ∀ k : Fin 1024, (BitVec.ofNat 32 (t.val * 1024 + k.val)).toInt = ((t.val * 1024 + k.val : ℕ) : ℤ) := by
      intro k
      have hk := k.isLt
      rw [BitVec.toInt_eq_toNat_of_lt (by rw [BitVec.toNat_ofNat]; omega), BitVec.toNat_ofNat, Nat.mod_eq_of_lt (by omega)]
    have hbig : (2147483647#32 : BitVec 32).toInt = 2147483647 := by decide
    have hj' := j.isLt
    have e := fold_minsi (fun k : Fin 1024 => if perturbed l r (t.val * 1024 + j.val) ≤ perturbed l r (t.val * 1024 + k.val)
      then BitVec.ofNat 32 (t.val * 1024 + k.val) else 2147483647#32) 2147483647#32 j
      (by rw [if_pos le_rfl, hint, hbig]; omega)
      (fun k => by
        have hk := k.isLt
        beta_reduce
        rw [if_pos le_rfl, hint]
        by_cases hle : perturbed l r (t.val * 1024 + j.val) ≤ perturbed l r (t.val * 1024 + k.val)
        · rw [if_pos hle, hint]
          by_contra hlt
          have hkj : k < j := by rw [Fin.lt_def]; omega
          exact absurd ((hj k).2 hkj) (not_lt.2 hle)
        · rw [if_neg hle, hbig]; omega)
    rw [if_pos le_rfl] at e
    exact e
  have h' := h.step (B := 1024) j.val ⟨j.isLt, fun k hk => hj ⟨k, hk⟩⟩
  rw [step_bv, step_bi, pay65_at, pay66_at, hB, hC]
  exact h'

/-- One more block. -/
theorem Inv.step {st : St Ideal} (h : Inv l (t.val * 1024) st) : Inv l (t.val * 1024 + 1024) (st.step (pt t) L) := fun r =>
  ⟨ent_step t L l hL st r (h r).1, best_step t L l hL st r (h r).2⟩

end

/-- After any number of blocks. -/
theorem inv_at (V : Valuation τ sig (Elt Ideal)) (l : Fin 1024 → ℕ → ℝ)
    (hL : ∀ (t : Fin cfg0.N) (r k : Fin 1024), logitsAt V t (ix2 r k) = ((l r (t.val * 1024 + k.val) : ℝ) : EReal)) :
    ∀ n, n ≤ 32 → Inv l (n * 1024) (stAt V n) := by
  intro n
  induction n with
  | zero => intro _; rw [Nat.zero_mul]; exact Inv.init l
  | succ n ih =>
    intro hn
    have hlt : n < cfg0.N := Nat.lt_of_lt_of_eq (by omega) N_0.symm
    have e := stAt_succ V ⟨n, hlt⟩
    rw [Nat.succ_mul, e]
    exact Inv.step ⟨n, hlt⟩ (logitsAt V ⟨n, hlt⟩) l (hL ⟨n, hlt⟩) (ih (by omega))

end Cert.KernelIdeal.Own
end
-- ==== Proof.RefValue.lean ====
module

public import proofs.«01_k».proof.Proof.Words
public import Idealize.ShloMosaic.Lib.MatmulPlain
public import Idealize.ShloMosaic.Lib.Pipeline.Value

/-! The reference's results at the ideal instance, row by row: the entropy, and the sample as one at the first largest perturbed
logit and zero elsewhere. -/

@[expose] public section

set_option maxRecDepth 16384

noncomputable section

namespace Cert.Proof.RefValue

open Idealize.ShloMosaic Idealize.ShloMosaic.ValueIdx
open Cert.Proof.RefRun Cert.Proof.RowMath Cert.Proof.Words
open Cert.ReferenceIdeal Cert.ReferenceIdeal.Gen
open scoped BigOperators

/-! ## Layout operations and reductions read at a row -/

section Layout
variable {α : Type}

theorem up_row (x : S1024.Idx → α) (r : Fin 1024) :
    broadcastInDim S1024x1 ![0] bcast_S1024_S1024x1_0 x (ix2 r 0) = x (ix1 r) :=
  broadcastInDim_apply _ _ x _ _ (fun a => match a with | ⟨0, _⟩ => rfl)

theorem across_row (x : S1024x1.Idx → α) (r : Fin 1024) (k : Fin 32768) :
    broadcastInDim S1024x32768 ![0, 1] bcast_S1024x1_S1024x32768_0_1 x (ix2 r k) = x (ix2 r 0) :=
  broadcastInDim_apply _ _ x _ _ (fun a => match a with | ⟨0, _⟩ => rfl | ⟨1, _⟩ => rfl)

theorem down_col (x : S1x32768.Idx → α) (r : Fin 1024) (k : Fin 32768) :
    broadcastInDim S1024x32768 ![0, 1] bcast_S1x32768_S1024x32768_0_1 x (ix2 r k) = x (ix2 0 k) :=
  broadcastInDim_apply _ _ x _ _ (fun a => match a with | ⟨0, _⟩ => rfl | ⟨1, _⟩ => rfl)

end Layout

theorem reduces_row : S1024x32768.Reduces [1] S1024 := by decide

theorem lift_row (r : Fin 1024) (k : Fin 32768) : reduces_row.lift (ix1 r) k = ix2 r k := by
  funext a
  match a with
  | ⟨0, _⟩ => rfl
  | ⟨1, _⟩ => rfl

/-- The sum of a row of reals. -/
theorem refSum_at (x : S1024x32768.Idx → Ideal .f32) (f : ℕ → ℝ) (r : Fin 1024)
    (hx : ∀ k : Fin 32768, x (ix2 r k) = (f k.val : EReal)) :
    refSum (F := Ideal) x (ix1 r) = ((∑ k ∈ Finset.range 32768, f k : ℝ) : EReal) := by
  unfold refSum
  rw [hostReduceAdd_apply]
  refine (Ideal.hostReduceAdd_single _ reduces_row x _ (ix1 r)).trans ?_
  have h0 : (constant S_ .f32 0x00000000#32 : FVec Ideal S_ .f32) (Shape.Idx.first h_S_) = (0 : EReal) := ofBits_zero
  rw [h0, zero_add, Finset.sum_range, coe_sum]
  refine Finset.sum_congr rfl fun k _ => ?_
  exact (congrArg x (lift_row r k)).trans (hx k)

/-- The host's fold of the maximum from minus infinity, over one axis of reals. -/
theorem reduce_max {s t u : Shape} {a : Fin s.rank} (h' : s.ReducesTo [a] t) (h : s.Reduces [a] t) (hu : 0 < u.numel)
    (z : s.Idx → Ideal .f32) (init : u.Idx → Ideal .f32) (hi : init (Shape.Idx.first hu) = (⊥ : EReal)) (j : t.Idx)
    (f : Fin (s.size a) → ℝ) (hf : ∀ k, z (h.lift j k) = (f k : EReal)) (k₀ : Fin (s.size a)) (hk : ∀ k, f k ≤ f k₀) :
    Host.reduce (FloatOps.maximumf (F := Ideal) (φ := .f32)) z init h' hu j = (f k₀ : EReal) := by
  rw [Host.reduce_eq_fold_single _ _ _ h' h, hi, ← fold_max f k₀ hk]
  exact congrArg (fun g => Finset.univ.fold max (⊥ : EReal) g) (funext hf)

theorem refMax_apply {F : FTy → Type} [FloatOps F] (z : S1024x32768.Idx → F .f32) (j : S1024.Idx) :
    refMax z j = FloatOps.maximumf (broadcastInDim S1024 ![] bcast_S_S1024 (constant S_ .f32 0xFF800000#32 : FVec F S_ .f32) j)
      (Host.reduce FloatOps.maximumf z (constant S_ .f32 0xFF800000#32) reducesTo_S1024x32768_S1024_d1 h_S_ j) := rfl

/-- The largest of a row of reals is a real. -/
theorem refMax_at (z : S1024x32768.Idx → Ideal .f32) (f : ℕ → ℝ) (r : Fin 1024)
    (hz : ∀ k : Fin 32768, z (ix2 r k) = (f k.val : EReal)) : ∃ R : ℝ, refMax (F := Ideal) z (ix1 r) = (R : EReal) := by
  obtain ⟨j, hj⟩ := exists_top (n := 32768) (by decide) (fun k : Fin 32768 => f k.val)
  refine ⟨f j.val, ?_⟩
  have h0 : (constant S_ .f32 0xFF800000#32 : FVec Ideal S_ .f32) (Shape.Idx.first h_S_) = (⊥ : EReal) := ofBits_ninf
  have e : Host.reduce FloatOps.maximumf z (constant S_ .f32 0xFF800000#32) reducesTo_S1024x32768_S1024_d1 h_S_ (ix1 r)
      = (f j.val : EReal) :=
    reduce_max reducesTo_S1024x32768_S1024_d1 reduces_row h_S_ z _ h0 (ix1 r) (fun k : Fin 32768 => f k.val)
      (fun k => (congrArg z (lift_row r k)).trans (hz k)) j (fun k => (hj k).1)
  have hb : (broadcastInDim S1024 ![] bcast_S_S1024 (constant S_ .f32 0xFF800000#32 : FVec Ideal S_ .f32)) (ix1 r) = (⊥ : EReal) := ofBits_ninf
  rw [refMax_apply, e, hb, Ideal.maximumf_def]
  exact max_eq_right bot_le

theorem refShift_apply {F : FTy → Type} [FloatOps F] (z : S1024x32768.Idx → F .f32) (r : Fin 1024) (k : Fin 32768) :
    refShift z (ix2 r k) = FloatOps.subf (z (ix2 r k)) (refMax z (ix1 r)) :=
  congrArg (FloatOps.subf (z (ix2 r k))) ((across_row _ r k).trans (up_row _ r))

/-- A row of reals less its largest. -/
theorem refShift_at (z : S1024x32768.Idx → Ideal .f32) (f : ℕ → ℝ) (r : Fin 1024)
    (hz : ∀ k : Fin 32768, z (ix2 r k) = (f k.val : EReal)) :
    ∃ R : ℝ, ∀ k : Fin 32768, refShift (F := Ideal) z (ix2 r k) = ((f k.val - R : ℝ) : EReal) := by
  obtain ⟨R, hR⟩ := refMax_at z f r hz
  refine ⟨R, fun k => ?_⟩
  rw [refShift_apply, hR, hz, Ideal.subf_def, ← EReal.coe_sub]

theorem hexp_apply {F : FTy → Type} [FloatOps F] {s : Shape} (x : s.Idx → F .f32) (i : s.Idx) :
    Host.exp x i = FloatOps.hostUnary .exp (x i) := rfl

theorem hlog_apply {F : FTy → Type} [FloatOps F] {s : Shape} (x : s.Idx → F .f32) (i : s.Idx) :
    Host.log x i = FloatOps.hostUnary .log (x i) := rfl

/-- The sum of a row's exponentials. -/
theorem expSum_at (z : S1024x32768.Idx → Ideal .f32) (f : ℕ → ℝ) (r : Fin 1024) (R : ℝ)
    (hR : ∀ k : Fin 32768, refShift (F := Ideal) z (ix2 r k) = ((f k.val - R : ℝ) : EReal)) :
    refSum (F := Ideal) (Host.exp (refShift z)) (ix1 r) = ((∑ k ∈ Finset.range 32768, Real.exp (f k - R) : ℝ) : EReal) :=
  refSum_at _ (fun k => Real.exp (f k - R)) r (fun k => by rw [hexp_apply, hR, Ideal.hostUnary_exp_def, Ideal.exp_coe])

/-! ## The entropy -/

theorem refLogSoft_apply {F : FTy → Type} [FloatOps F] (L : S1024x32768.Idx → F .f32) (r : Fin 1024) (k : Fin 32768) :
    refLogSoft L (ix2 r k) = FloatOps.subf (refShift L (ix2 r k)) (FloatOps.hostUnary .log (refSum (Host.exp (refShift L)) (ix1 r))) :=
  congrArg (FloatOps.subf (refShift L (ix2 r k))) ((across_row _ r k).trans
    ((hlog_apply _ _).trans (congrArg (FloatOps.hostUnary .log) (up_row _ r))))

theorem refEnt_apply {F : FTy → Type} [FloatOps F] (L : S1024x32768.Idx → F .f32) (j : S1024.Idx) :
    refEnt L j = FloatOps.hostNegf (refSum (mulf (Host.exp (refLogSoft L)) (refLogSoft L)) j) := rfl

theorem mul_apply {F : FTy → Type} [FloatOps F] {s : Shape} (x y : s.Idx → F .f32) (i : s.Idx) :
    mulf x y i = FloatOps.mulf (x i) (y i) := rfl

/-- The reference's entropy of a row of real logits. -/
theorem refEnt_at (L : S1024x32768.Idx → Ideal .f32) (l : ℕ → ℝ) (r : Fin 1024)
    (hL : ∀ k : Fin 32768, L (ix2 r k) = (l k.val : EReal)) : refEnt (F := Ideal) L (ix1 r) = (entropy l 32768 : EReal) := by
  obtain ⟨R, hR⟩ := refShift_at L l r hL
  have hs := expSum_at L l r R hR
  have hp := sum_exp_pos (fun k => l k - R) (N := 32768) (by decide)
  have hlog : ∀ k : Fin 32768, refLogSoft (F := Ideal) L (ix2 r k)
      = (((l k.val - R) - Real.log (∑ k ∈ Finset.range 32768, Real.exp (l k - R)) : ℝ) : EReal) := by
    intro k
    rw [refLogSoft_apply, hs, hR, Ideal.hostUnary_log_def, Ideal.log_coe, if_neg (not_le.2 hp), Ideal.subf_def, ← EReal.coe_sub]
  rw [refEnt_apply, refSum_at _ (fun k => Real.exp ((l k - R) - Real.log (∑ k ∈ Finset.range 32768, Real.exp (l k - R)))
    * ((l k - R) - Real.log (∑ k ∈ Finset.range 32768, Real.exp (l k - R)))) r ?_, Ideal.hostNegf_def, Ideal.negf_def, ← EReal.coe_neg,
    ref_entropy l (by decide) R]
  intro k
  rw [mul_apply, hexp_apply, hlog, Ideal.hostUnary_exp_def, Ideal.exp_coe, Ideal.mulf_def, ← EReal.coe_mul]

/-! ## The softmax and its first largest -/

theorem refZ_apply {F : FTy → Type} [FloatOps F] (L : S1024x32768.Idx → F .f32) (i : S1024x32768.Idx) :
    refZ L i = FloatOps.hostDivf (FloatOps.addf (L i) (refNoise i)) (FloatOps.ofBits .f32 0x3F800000#32) := rfl

/-- A perturbed logit. -/
theorem refZ_at (L : S1024x32768.Idx → Ideal .f32) (i : S1024x32768.Idx) (v : ℝ) (hL : L i = (v : EReal)) :
    refZ (F := Ideal) L i = ((v + noise i : ℝ) : EReal) := by
  rw [refZ_apply, refNoise_eq, hL, Ideal.ofBits_def, ofBits_one, Ideal.hostDivf_def, Ideal.addf_def, ← EReal.coe_add]
  refine (Ideal.div_coe one_ne_zero _).trans ?_
  rw [div_one, EReal.coe_one, mul_one]

theorem refSoft_apply {F : FTy → Type} [FloatOps F] (z : S1024x32768.Idx → F .f32) (r : Fin 1024) (k : Fin 32768) :
    refSoft z (ix2 r k) = FloatOps.hostDivf (FloatOps.hostUnary .exp (refShift z (ix2 r k))) (refSum (Host.exp (refShift z)) (ix1 r)) :=
  congrArg (FloatOps.hostDivf (FloatOps.hostUnary .exp (refShift z (ix2 r k)))) ((across_row _ r k).trans (up_row _ r))

/-- The softmax of a row of reals: reals, in the order of the row. -/
theorem refSoft_at (z : S1024x32768.Idx → Ideal .f32) (f : ℕ → ℝ) (r : Fin 1024)
    (hz : ∀ k : Fin 32768, z (ix2 r k) = (f k.val : EReal)) :
    ∃ p : ℕ → ℝ, (∀ k : Fin 32768, refSoft (F := Ideal) z (ix2 r k) = (p k.val : EReal)) ∧ ∀ a b, p a < p b ↔ f a < f b := by
  obtain ⟨R, hR⟩ := refShift_at z f r hz
  have hs := expSum_at z f r R hR
  have hp := sum_exp_pos (fun k => f k - R) (N := 32768) (by decide)
  refine ⟨fun k => Real.exp (f k - R) * (1 / ∑ k ∈ Finset.range 32768, Real.exp (f k - R)), fun k => ?_, fun a b => ?_⟩
  · rw [refSoft_apply, hs, hR, Ideal.hostUnary_exp_def, Ideal.exp_coe, Ideal.hostDivf_def, Ideal.div_coe hp.ne', ← EReal.coe_mul]
  · have hq : 0 < 1 / ∑ k ∈ Finset.range 32768, Real.exp (f k - R) := one_div_pos.2 hp
    beta_reduce
    rw [mul_lt_mul_iff_left₀ hq, Real.exp_lt_exp, sub_lt_sub_iff_right]

/-! The reducer keeps the better of two pairs. -/

theorem reducer_eq (a b : EReal × BitVec 32) :
    reducer_argmax_f32_i32 (F := Ideal) a b
      = (if b.1 < a.1 then a.1 else b.1, if b.1 < a.1 ∨ (a.1 = b.1 ∧ a.2.toInt < b.2.toInt) then a.2 else b.2) := by
  have h : reducer_argmax_f32_i32 (F := Ideal) a b
      = (Scalar.select (IntOp.ori (Ideal.cmp .ogt a.1 b.1) (Ideal.cmp .une a.1 a.1)) a.1 b.1,
        Scalar.select (IntOp.ori (IntOp.ori (Ideal.cmp .ogt a.1 b.1) (Ideal.cmp .une a.1 a.1))
          (IntOp.andi (Ideal.cmp .oeq a.1 b.1) (IntOp.cmpi .slt a.2 b.2))) a.2 b.2) := rfl
  have h1 : Ideal.cmp .ogt a.1 b.1 = BitVec.ofBool (decide (b.1 < a.1)) := rfl
  have h2 : Ideal.cmp .une a.1 a.1 = 0#1 := by simp [Ideal.cmp]
  have h3 : Ideal.cmp .oeq a.1 b.1 = BitVec.ofBool (decide (a.1 = b.1)) := rfl
  have h4 : IntOp.cmpi .slt a.2 b.2 = BitVec.ofBool (decide (a.2.toInt < b.2.toInt)) := by
    show BitVec.ofBool (a.2.slt b.2) = _
    rw [BitVec.slt_eq_decide]
  rw [h, h1, h2, h3, h4]
  by_cases c1 : b.1 < a.1 <;> by_cases c2 : a.1 = b.1 <;> by_cases c3 : a.2.toInt < b.2.toInt <;>
    simp [c1, c2, c3, IntOp.ori, IntOp.andi, Scalar.select]

theorem reducer_left (p q : EReal × BitVec 32) (h : Below q p) : reducer_argmax_f32_i32 (F := Ideal) p q = p := by
  rw [reducer_eq]
  rcases h with h | ⟨h1, h2⟩
  · rw [if_pos h, if_pos (.inl h)]
  · rw [if_neg (by rw [h1]; exact lt_irrefl _), if_pos (.inr ⟨h1.symm, h2⟩), h1]

theorem reducer_right (p q : EReal × BitVec 32) (h : Below q p) : reducer_argmax_f32_i32 (F := Ideal) q p = p := by
  rw [reducer_eq]
  rcases h with h | ⟨h1, h2⟩
  · rw [if_neg (not_lt.2 h.le), if_neg]
    rintro (h' | ⟨h', -⟩)
    · exact absurd h (not_lt.2 h'.le)
    · exact absurd h (by rw [h']; exact lt_irrefl _)
  · rw [if_neg (by rw [h1]; exact lt_irrefl _), if_neg]
    rintro (h' | ⟨-, h'⟩)
    · exact absurd h' (by rw [h1]; exact lt_irrefl _)
    · omega

theorem reducer_cases (a b : EReal × BitVec 32) :
    reducer_argmax_f32_i32 (F := Ideal) a b = a ∨ reducer_argmax_f32_i32 (F := Ideal) a b = b := by
  rcases lt_trichotomy a.1 b.1 with h | h | h
  · exact .inr (reducer_right b a (.inl h))
  · rcases lt_trichotomy a.2.toInt b.2.toInt with h' | h' | h'
    · exact .inl (reducer_left a b (.inr ⟨h.symm, h'⟩))
    · left
      have e : a = b := Prod.ext h (BitVec.eq_of_toInt_eq h')
      subst e
      rw [reducer_eq, if_neg (lt_irrefl _), if_neg]
      rintro (h | ⟨-, h⟩)
      · exact lt_irrefl _ h
      · exact lt_irrefl _ h
    · exact .inr (reducer_right b a (.inr ⟨h, h'⟩))
  · exact .inl (reducer_left a b (.inl h))

theorem word_toInt (k : ℕ) (hk : k < 32768) : (BitVec.ofNat 32 k).toInt = k := by
  rw [BitVec.toInt_eq_toNat_of_lt (by rw [BitVec.toNat_ofNat]; omega), BitVec.toNat_ofNat, Nat.mod_eq_of_lt (by omega)]

/-- The host's fold of the reducer over one axis of reals, where one place beats all the others. -/
theorem argReduce_best {s t u : Shape} {a : Fin s.rank} (h' : s.ReducesTo [a] t) (h : s.Reduces [a] t) (hu : 0 < u.numel)
    (y : s.Idx → Ideal .f32) (c : s.Idx → BitVec 32) (ix : u.Idx → Ideal .f32) (iy : u.Idx → BitVec 32)
    (hi : ix (Shape.Idx.first hu) = (⊥ : EReal)) (j : t.Idx) (p : Fin (s.size a) → ℝ) (hy : ∀ k, y (h.lift j k) = (p k : EReal))
    (k₀ : Fin (s.size a))
    (hb : ∀ k, k ≠ k₀ → Below ((p k : EReal), c (h.lift j k)) ((p k₀ : EReal), c (h.lift j k₀))) :
    Host.argReduce (reducer_argmax_f32_i32 (F := Ideal)) y c ix iy h' hu j = ((p k₀ : EReal), c (h.lift j k₀)) := by
  rw [Ideal.argReduce_eq_reduce2, Host.reduce2_eq_foldl_fiber]
  apply fold_best (reducer_argmax_f32_i32 (F := Ideal)) _ reducer_cases (fun q h => reducer_left _ q h) (fun q h => reducer_right _ q h)
  · intro q hq
    obtain ⟨n, hn, rfl⟩ := List.mem_map.1 hq
    have hd := of_decide_eq_true (List.mem_filter.1 hn).2
    rw [Shape.ReducesTo.drop_eq_drop h' h] at hd
    have hl := h.lift_drop (s.rowMajor.symm n)
    rw [hd] at hl
    rw [← hl, hy]
    by_cases hk : s.rowMajor.symm n a = k₀
    · left; rw [hk]
    · exact .inr (hb _ hk)
  · right
    refine ⟨.inl ?_, List.mem_map.2 ⟨s.rowMajor (h.lift j k₀), List.mem_filter.2 ⟨List.mem_finRange _, decide_eq_true ?_⟩, ?_⟩⟩
    · show ix (Shape.Idx.first hu) < (p k₀ : EReal)
      rw [hi]; exact EReal.bot_lt_coe _
    · rw [Equiv.symm_apply_apply, Shape.ReducesTo.drop_eq_drop h' h]
      exact h.drop_lift _ _
    · rw [Equiv.symm_apply_apply, hy]

theorem iota_at (r : Fin 1024) (k : Fin 32768) : iotaInDim S1024x32768 32 1 (ix2 r k) = BitVec.ofNat 32 k.val := rfl

/-- The first place of the largest beats every other place. -/
theorem below_top (p : ℕ → ℝ) (k₀ k : ℕ) (ht : Top p 32768 k₀) (hk : k < 32768) (hne : k ≠ k₀) :
    Below ((p k : EReal), BitVec.ofNat 32 k) ((p k₀ : EReal), BitVec.ofNat 32 k₀) := by
  by_cases hlt : p k < p k₀
  · exact .inl (EReal.coe_lt_coe_iff.2 hlt)
  · have hle := (ht.2 k hk).1
    have hge : k₀ < k := by
      by_contra hc
      exact hlt ((ht.2 k hk).2 (by omega))
    refine .inr ⟨congrArg (fun x : ℝ => (x : EReal)) (le_antisymm hle (not_lt.1 hlt)), ?_⟩
    have h1 := word_toInt _ ht.1
    have h2 := word_toInt _ hk
    exact lt_of_eq_of_lt h1 (lt_of_lt_of_eq (Int.ofNat_lt.2 hge) h2.symm)

/-- The number of an element's column. -/
theorem iota_lift (r : Fin 1024) (k : Fin 32768) :
    iotaInDim S1024x32768 32 1 (reduces_row.lift (ix1 r) k) = BitVec.ofNat 32 k.val :=
  (congrArg (iotaInDim S1024x32768 32 1) (lift_row r k)).trans (iota_at r k)

/-- The host's fold of the argmax reducer over a row of reals: the largest and its first place. -/
theorem arg_fold (y : S1024x32768.Idx → Ideal .f32) (p : ℕ → ℝ) (r : Fin 1024)
    (hy : ∀ k : Fin 32768, y (ix2 r k) = (p k.val : EReal)) (k₀ : Fin 32768) (ht : Top p 32768 k₀.val) :
    Host.argReduce (reducer_argmax_f32_i32 (F := Ideal)) y (iotaInDim S1024x32768 32 1) (constant S_ .f32 0xFF800000#32)
      (constantI S_ 32 0#32) reducesTo_S1024x32768_S1024_d1 h_S_ (ix1 r)
      = ((p k₀.val : EReal), iotaInDim S1024x32768 32 1 (reduces_row.lift (ix1 r) k₀)) := by
  apply argReduce_best reducesTo_S1024x32768_S1024_d1 reduces_row h_S_ y (iotaInDim S1024x32768 32 1) (constant S_ .f32 0xFF800000#32)
    (constantI S_ 32 0#32) ?_ (ix1 r) (fun k : Fin 32768 => p k.val) (fun k => (congrArg y (lift_row r k)).trans (hy k)) k₀ ?_
  · exact ofBits_ninf
  · intro k hkk
    rw [iota_lift r k, iota_lift r k₀]
    exact below_top p k₀.val _ ht (Fin.isLt k) (fun h => hkk (Fin.ext h))

end Cert.Proof.RefValue

end
-- ==== Proof.RefSample.lean ====
module

public import proofs.«01_k».proof.Proof.RefValue

/-! The reference's sample at the ideal instance: one at the first largest perturbed logit of a row, zero elsewhere. -/

@[expose] public section

set_option maxRecDepth 16384

noncomputable section

namespace Cert.Proof.RefValue

open Idealize.ShloMosaic Idealize.ShloMosaic.ValueIdx
open Cert.Proof.RefRun Cert.Proof.RowMath Cert.Proof.Words
open Cert.ReferenceIdeal Cert.ReferenceIdeal.Gen
open scoped BigOperators

/-- The reference's argmax is the second half of the host's fold of the reducer. -/
theorem refArg_eq {F : FTy → Type} [FloatOps F] (y : S1024x32768.Idx → F .f32) : refArg (F := F) y = fun j => Prod.snd
    (Host.argReduce (reducer_argmax_f32_i32 (F := F)) y (iotaInDim S1024x32768 32 1) (constant S_ .f32 0xFF800000#32)
      (constantI S_ 32 0#32) reducesTo_S1024x32768_S1024_d1 h_S_ j) := by
  delta refArg
  exact rfl

/-- The reference's argmax of a row of reals is the first place of its largest. -/
theorem refArg_at (y : S1024x32768.Idx → Ideal .f32) (p : ℕ → ℝ) (r : Fin 1024)
    (hy : ∀ k : Fin 32768, y (ix2 r k) = (p k.val : EReal)) (k₀ : ℕ) (ht : Top p 32768 k₀) :
    refArg (F := Ideal) y (ix1 r) = BitVec.ofNat 32 k₀ := by
  have key := arg_fold y p r hy ⟨k₀, ht.1⟩ ht
  refine (congrFun (refArg_eq y) (ix1 r)).trans ?_
  beta_reduce
  rw [key]
  exact iota_lift r ⟨k₀, ht.1⟩

/-! ## The sample -/

theorem refHot_apply {F : FTy → Type} [FloatOps F] (q : S1024.Idx → BitVec 32) (r : Fin 1024) (k : Fin 32768) :
    refHot (F := F) q (ix2 r k) = FloatOps.uitofp .f32 (IntOp.cmpi .eq (q (ix1 r)) (BitVec.ofNat 32 k.val)) :=
  congrArg (FloatOps.uitofp .f32) (congrArg₂ (IntOp.cmpi .eq) ((across_row _ r k).trans (up_row _ r)) (down_col _ r k))

/-- One at a place, zero elsewhere. -/
def hot (k₀ k : ℕ) : ℝ := if k = k₀ then 1 else 0

theorem word_inj {a b : ℕ} (ha : a < 32768) (hb : b < 32768) : BitVec.ofNat 32 a = BitVec.ofNat 32 b ↔ a = b := by
  refine ⟨fun h => ?_, fun h => by rw [h]⟩
  have := congrArg BitVec.toNat h
  rw [BitVec.toNat_ofNat, BitVec.toNat_ofNat, Nat.mod_eq_of_lt (by omega), Nat.mod_eq_of_lt (by omega)] at this
  exact this

theorem refHot_at (q : S1024.Idx → BitVec 32) (r : Fin 1024) (k : Fin 32768) (k₀ : ℕ) (hk₀ : k₀ < 32768)
    (hq : q (ix1 r) = BitVec.ofNat 32 k₀) : refHot (F := Ideal) q (ix2 r k) = (hot k₀ k.val : EReal) := by
  rw [refHot_apply, hq]
  have h : IntOp.cmpi .eq (BitVec.ofNat 32 k₀) (BitVec.ofNat 32 k.val) = BitVec.ofBool (decide (k.val = k₀)) := by
    show BitVec.ofBool (BitVec.ofNat 32 k₀ == BitVec.ofNat 32 k.val) = _
    congr 1
    rw [beq_eq_decide]
    exact decide_eq_decide.2 ((word_inj hk₀ k.isLt).trans eq_comm)
  rw [h]
  show (((BitVec.ofBool (decide (k.val = k₀))).toNat : ℝ) : EReal) = _
  unfold hot
  by_cases c : k.val = k₀
  · rw [if_pos c, decide_eq_true c]; exact congrArg (fun x : ℝ => (x : EReal)) Nat.cast_one
  · rw [if_neg c, decide_eq_false c]; exact congrArg (fun x : ℝ => (x : EReal)) Nat.cast_zero

theorem refSample_apply {F : FTy → Type} [FloatOps F] (L : S1024x32768.Idx → F .f32) (i : S1024x32768.Idx) :
    refSample L i = FloatOps.addf (refSoft (refZ L) i) (FloatOps.subf (refHot (refArg (refSoft (refZ L))) i) (refSoft (refZ L) i)) := rfl

/-- The reference's sample of a row of real logits. -/
theorem refSample_at (L : S1024x32768.Idx → Ideal .f32) (l : ℕ → ℝ) (r : Fin 1024) (z : ℕ → ℝ)
    (hL : ∀ k : Fin 32768, L (ix2 r k) = (l k.val : EReal)) (hz : ∀ k : Fin 32768, z k.val = l k.val + noise (ix2 r k))
    (k₀ : ℕ) (ht : Top z 32768 k₀) (k : Fin 32768) : refSample (F := Ideal) L (ix2 r k) = (hot k₀ k.val : EReal) := by
  have hzz : ∀ k : Fin 32768, refZ (F := Ideal) L (ix2 r k) = (z k.val : EReal) := fun k => by rw [refZ_at L _ _ (hL k), hz]
  obtain ⟨p, hp, hlt⟩ := refSoft_at (refZ L) z r hzz
  have htp : Top p 32768 k₀ := ⟨ht.1, fun k hk => ⟨by
    by_contra hc
    exact absurd ((hlt _ _).1 (not_le.1 hc)) (not_lt.2 (ht.2 k hk).1), fun h => (hlt _ _).2 ((ht.2 k hk).2 h)⟩⟩
  rw [refSample_apply, hp, refHot_at _ r k k₀ ht.1 (refArg_at _ p r hp k₀ htp), Ideal.addf_def, Ideal.subf_def, ← EReal.coe_sub,
    ← EReal.coe_add, add_sub_cancel]

end Cert.Proof.RefValue

end
-- ==== Proof.Logits.lean ====
module

public import proofs.«01_k».proof.Proof.Step
public import proofs.«01_k».proof.Proof.RefSample
public import Idealize.ShloMosaic.Lib.StackMember

/-! The logits at the ideal instance: the reference's and the kernel's are the same sums. -/

@[expose] public section

set_option maxRecDepth 16384

noncomputable section

/-! ## The reference's logits -/

namespace Cert.Proof.RefValue

open Idealize.ShloMosaic Idealize.ShloMosaic.ValueIdx
open Cert.Proof.RefRun Cert.Proof.RowMath Cert.Proof.Words
open Cert.ReferenceIdeal Cert.ReferenceIdeal.Gen
open scoped BigOperators

theorem refDot_eq : dot_S1024x2048_S2048x32768_S1024x32768_1_0_0_1_n_n = DotDims.plain 1024 2048 32768 := rfl

theorem refLogits_apply {F : FTy → Type} [FloatOps F] (x : S1024x2048.Idx → F .f32) (w : S2048x32768.Idx → F .f32) (b : S32768.Idx → F .f32)
    (i : S1024x32768.Idx) :
    refLogits x w b i = FloatOps.addf (Host.dotGeneral dot_S1024x2048_S2048x32768_S1024x32768_1_0_0_1_n_n none x w i)
      (broadcastInDim S1024x32768 ![0, 1] bcast_S1x32768_S1024x32768_0_1 (broadcastInDim S1x32768 ![1] bcast_S32768_S1x32768_1 b) i) := rfl

theorem bias_row {α : Type} (b : S32768.Idx → α) (k : Fin 32768) :
    broadcastInDim S1x32768 ![1] bcast_S32768_S1x32768_1 b (ix2 0 k) = b (ix1 k) :=
  broadcastInDim_apply _ _ b _ _ (fun a => match a with | ⟨0, _⟩ => rfl)

/-- A logit of the reference. -/
theorem refLogits_at (x : S1024x2048.Idx → Ideal .f32) (w : S2048x32768.Idx → Ideal .f32) (b : S32768.Idx → Ideal .f32)
    (r : Fin 1024) (k : Fin 32768) :
    refLogits (F := Ideal) x w b (ix2 r k)
      = ((∑ c : Fin 2048, (x (ix2 r c) : EReal) * (w (ix2 c k) : EReal)) + (b (ix1 k) : EReal) : EReal) := by
  rw [refLogits_apply, Ideal.addf_def, refDot_eq]
  exact congrArg₂ (fun p q : EReal => p + q) (Idealize.ShloMosaic.StackMember.dotGeneral_plain_apply none x w r k) ((down_col _ r k).trans (bias_row b k))

end Cert.Proof.RefValue

/-! ## The kernel's logits -/

namespace Cert.KernelIdeal.Own

open Cert.KernelIdeal.Gen
open Idealize.ShloMosaic Idealize.ShloMosaic.ValueIdx
open Cert.Proof.RowMath Cert.Proof.Words
open scoped BigOperators

/-- The number of a block's column in the whole array. -/
def colOf (t : Fin cfg0.N) (k : Fin 1024) : Fin 32768 :=
  ⟨t.val * 1024 + k.val, by have := k.isLt; have : t.val < 32 := Nat.lt_of_lt_of_eq t.isLt N_0; omega⟩

theorem outOf_ix (t : Fin cfg0.N) (r k : Fin 1024) : outOf t (ix2 r k) = ix2 r (colOf t k) := by
  funext a; match a with | ⟨0, _⟩ => rfl | ⟨1, _⟩ => rfl

theorem wOut_ix (t : Fin cfg0.N) (c : Fin 2048) (k : Fin 1024) : wOut t (ix2 c k) = ix2 c (colOf t k) := by
  funext a; match a with | ⟨0, _⟩ => rfl | ⟨1, _⟩ => rfl

theorem bOut_ix (t : Fin cfg0.N) (k : Fin 1024) : bOut t (ix2 0 k) = ix2 0 (colOf t k) := by
  funext a; match a with | ⟨0, _⟩ => rfl | ⟨1, _⟩ => rfl

theorem dot_eq : dot_S1024x2048_S2048x1024_S1024x1024_1_0_0_1_n_n = DotDims.plain 1024 2048 1024 := rfl

theorem pay2_apply {F : FTy → Type} [FloatOps F] (x : FVec F S1024x2048 .f32) (w : FVec F S2048x1024 .f32) (b : FVec F S1x1024 .f32)
    (i : S1024x1024.Idx) :
    k0_pay2 x w b i = FloatOps.addf
      (FloatOps.matmul dot_S1024x2048_S2048x1024_S1024x1024_1_0_0_1_n_n none x w (constant S1024x1024 .f32 0x00000000#32) i)
      (broadcastTo S1024x1024 (shapeCast S1x1024 b shapeCasts_S1x1024_S1x1024) broadcasts_S1x1024_S1024x1024 i) := rfl

theorem spread_col {α : Type} (b : S1x1024.Idx → α) (r k : Fin 1024) :
    broadcastTo S1024x1024 b broadcasts_S1x1024_S1024x1024 (ix2 r k) = b (ix2 0 k) :=
  broadcastTo_apply b _ _ _ (fun a => match a with | ⟨0, _⟩ => rfl | ⟨1, _⟩ => rfl)

/-- A logit of a block. -/
theorem pay2_at (x : FVec Ideal S1024x2048 .f32) (w : FVec Ideal S2048x1024 .f32) (b : FVec Ideal S1x1024 .f32) (r k : Fin 1024) :
    k0_pay2 x w b (ix2 r k) = ((∑ c : Fin 2048, (x (ix2 r c) : EReal) * (w (ix2 c k) : EReal)) + (b (ix2 0 k) : EReal) : EReal) := by
  rw [pay2_apply, Ideal.addf_def, dot_eq, shapeCast_self, spread_col]
  refine congrArg (fun p : EReal => p + (b (ix2 0 k) : EReal)) ?_
  refine (Ideal.matmul_plain_apply (M := 1024) (K := 2048) (N := 1024) none x w (constant S1024x1024 .f32 0x00000000#32) r k).trans ?_
  have h0 : (constant S1024x1024 .f32 0x00000000#32 : FVec Ideal S1024x1024 .f32) (ix2 r k) = (0 : EReal) := ofBits_zero
  rw [h0, zero_add]

/-- A logit at a point, from the arrays the first kernel reads. -/
theorem logits_at (V : Valuation τ sig (Elt Ideal)) (x : S1024x2048.Idx → Ideal .f32) (w : S2048x32768.Idx → Ideal .f32) (b : S32768.Idx → Ideal .f32)
    (hx : V (Proc.devRef .tc main_arg0) = x) (hw : V (Proc.devRef .tc main_arg1) = w)
    (hb : ∀ k : Fin 32768, (V (Proc.devRef .tc main_v0) : S1x32768.Idx → Ideal .f32) (ix2 0 k) = b (ix1 k))
    (t : Fin cfg0.N) (r k : Fin 1024) :
    logitsAt V t (ix2 r k) = Cert.Proof.RefRun.refLogits (F := Ideal) x w b (ix2 r (colOf t k)) := by
  unfold logitsAt
  rw [pay2_at, Cert.Proof.RefValue.refLogits_at, blk0_0, blk0_2, bOut_ix, hb, hx]
  refine congrArg (fun p : EReal => p + (b (ix1 (colOf t k)) : EReal)) (Finset.sum_congr rfl fun c _ => ?_)
  rw [blk0_1, wOut_ix, hw]

/-! ## The host's reshapes -/

section
variable {F : FTy → Type} [FloatOps F] (m : (ℓ : Loc nD τ sig) → Buf (Elt F) ℓ)

theorem W1_arg0 (c : Dev nD) : W1 m c (Proc.devRef .tc main_arg0) = m ((c.tc : Thread nD τ).loc main_arg0) :=
  (StableHlo.after_of_writes_sub hostOps0 _ hostOps0_writes (by decide)).trans rfl
theorem W1_arg1 (c : Dev nD) : W1 m c (Proc.devRef .tc main_arg1) = m ((c.tc : Thread nD τ).loc main_arg1) :=
  (StableHlo.after_of_writes_sub hostOps0 _ hostOps0_writes (by decide)).trans rfl

theorem W1_bias (c : Dev nD) : W1 m c (Proc.devRef .tc main_v0)
    = shapeCast S1x32768 (m ((c.tc : Thread nD τ).loc main_arg2) : S32768.Idx → F .f32) shapeCasts_S32768_S1x32768 := by
  unfold W1
  rw [StableHlo.after_cons, StableHlo.after_nil]
  exact (StableHlo.reshape_result' ..).trans rfl

theorem W4_ent (c : Dev nD) : W4 m c (Proc.devRef .tc main_v3)
    = shapeCast S1024 (W3 m c (Proc.devRef .tc main_v1_1) : S1024x1.Idx → F .f32) shapeCasts_S1024x1_S1024 := by
  unfold W4
  rw [StableHlo.after_cons, StableHlo.after_nil]
  exact (StableHlo.reshape_result' ..).trans rfl

end

theorem bias_cast {α : Type} (b : S32768.Idx → α) (k : Fin 32768) :
    shapeCast S1x32768 b shapeCasts_S32768_S1x32768 (ix2 0 k) = b (ix1 k) :=
  shapeCast_apply b _ _ _ (by
    rw [Shape.rowMajor_val_one, Shape.rowMajor_val_two]
    show k.val = 0 * 32768 + k.val
    omega)

theorem ent_cast {α : Type} (e : S1024x1.Idx → α) (r : Fin 1024) :
    shapeCast S1024 e shapeCasts_S1024x1_S1024 (ix1 r) = e (ix2 r 0) :=
  shapeCast_apply e _ _ _ (by
    rw [Shape.rowMajor_val_one, Shape.rowMajor_val_two]
    show r.val * 1 + 0 = r.val
    omega)

end Cert.KernelIdeal.Own

end
-- ==== Proof.Finite.lean ====
module

public import proofs.«01_k».proof.Proof.Words
public import proofs.«01_k».proof.Pre_finite
public import Idealize.ShloMosaic.Lib.ReduceAll

/-! What the precondition says at the ideal instance: every entry of the three arguments is a real. -/

@[expose] public section

set_option maxRecDepth 16384

noncomputable section

namespace Cert.Proof.Finite

open Idealize.ShloMosaic
open Cert.Proof.Words
open Cert.Pre_finite Cert.Pre_finite.Facts

/-- A number whose absolute value is under infinity is a real. -/
theorem real_of_lt (v : EReal) (h : max v (-v) < ⊤) : ∃ r : ℝ, v = (r : EReal) := by
  induction v with
  | bot => exact absurd h (by rw [EReal.neg_bot]; simp)
  | coe r => exact ⟨r, rfl⟩
  | top => exact absurd h (by simp)

/-- The comparison of an absolute value with infinity, at any instance. -/
theorem below_apply {F : FTy → Type} [FloatOps F] {s : Shape} (x b : s.Idx → F .f32) (i : s.Idx) :
    cmpf .olt (Host.absf x) b i = FloatOps.cmpf .olt (FloatOps.hostAbsf (x i)) (b i) := rfl

/-- An array all of whose absolute values compare under infinity is an array of reals. -/
theorem all_real {s t u : Shape} {axes : List (Fin s.rank)} [Subsingleton t.Idx] (h : s.ReducesTo axes t) (hu : 0 < u.numel)
    (x b : s.Idx → Ideal .f32) (hb : ∀ i, b i = (⊤ : EReal)) (init : u.Idx → BitVec 1) (j : t.Idx)
    (e : Host.reduce IntOp.andi (cmpf .olt (Host.absf x) b) init h hu j = 1#1) (i : s.Idx) : ∃ r : ℝ, x i = (r : EReal) := by
  have hi := Host.reduce_andi_all _ init h hu j e i
  rw [below_apply, Ideal.cmpf_def, hb i] at hi
  apply real_of_lt
  by_contra hc
  have h0 : Ideal.cmp .olt (max (x i : EReal) (-(x i : EReal))) ⊤ = BitVec.ofBool (decide (max (x i : EReal) (-(x i : EReal)) < ⊤)) := rfl
  have hi' : Ideal.cmp .olt (max (x i : EReal) (-(x i : EReal))) ⊤ = 1#1 := hi
  rw [h0, decide_eq_false hc] at hi'
  exact absurd hi' (by decide)

theorem both {s : Shape} (p q : s.Idx → BitVec 1) (i : s.Idx) : andi p q i = IntOp.andi (p i) (q i) := rfl

instance : Subsingleton S_.Idx := ⟨fun a b => funext fun k => Fin.elim0 k⟩

section
variable [Cert.Pre_finite.Facts]

/-- The precondition written out, at any instance. -/
theorem fn_eq {F : FTy → Type} [FloatOps F] (x : FVec F S1024x2048 .f32) (w : FVec F S2048x32768 .f32) (b : FVec F S32768 .f32) :
    fn x w b = andi (andi
      (Host.reduce IntOp.andi (cmpf .olt (Host.absf x) (broadcastInDim S1024x2048 ![] bcast_S_S1024x2048 (constant S_ .f32 0x7F800000#32)))
        (constantI S_ 1 1#1) reducesTo_S1024x2048_S_d0_1 h_S_)
      (Host.reduce IntOp.andi (cmpf .olt (Host.absf w) (broadcastInDim S2048x32768 ![] bcast_S_S2048x32768 (constant S_ .f32 0x7F800000#32)))
        (constantI S_ 1 1#1) reducesTo_S2048x32768_S_d0_1 h_S_))
      (Host.reduce IntOp.andi (cmpf .olt (Host.absf b) (broadcastInDim S32768 ![] bcast_S_S32768 (constant S_ .f32 0x7F800000#32)))
        (constantI S_ 1 1#1) reducesTo_S32768_S_d0 h_S_) := by
  delta fn
  exact rfl

theorem spread_inf {t : Shape} (h : S_.BroadcastsInDim t ![]) (i : t.Idx) :
    broadcastInDim t ![] h (constant (F := Ideal) S_ .f32 0x7F800000#32) i = (⊤ : EReal) := ofBits_inf

/-- Under the precondition every entry of the arguments is a real. -/
theorem reals (x : FVec Ideal S1024x2048 .f32) (w : FVec Ideal S2048x32768 .f32) (b : FVec Ideal S32768 .f32)
    (h : fn x w b = fun _ => 1#1) :
    (∀ i, ∃ r : ℝ, x i = (r : EReal)) ∧ (∀ i, ∃ r : ℝ, w i = (r : EReal)) ∧ (∀ i, ∃ r : ℝ, b i = (r : EReal)) := by
  rw [fn_eq] at h
  have h0 := congrFun h (fun k => Fin.elim0 k)
  rw [both, both] at h0
  obtain ⟨h12, h3⟩ := IntOp.andi_eq_one.1 h0
  obtain ⟨h1, h2⟩ := IntOp.andi_eq_one.1 h12
  exact ⟨all_real _ _ x _ (fun i => spread_inf _ i) _ _ h1, all_real _ _ w _ (fun i => spread_inf _ i) _ _ h2,
    all_real _ _ b _ (fun i => spread_inf _ i) _ _ h3⟩

end

end Cert.Proof.Finite

end
-- ==== Proof.Value.lean ====
module

public import proofs.«01_k».proof.Proof.Logits
public import proofs.«01_k».proof.Proof.Finite

/-! The kernel's three results at the ideal instance are the reference's functions of the arguments, where the arguments are
finite. -/

@[expose] public section

set_option maxRecDepth 16384

noncomputable section

namespace Cert.KernelIdeal.Own

open Cert.KernelIdeal.Gen
open Idealize.ShloMosaic Idealize.ShloMosaic.ValueIdx
open Cert.Proof.RowMath Cert.Proof.Words Cert.Proof.RefRun Cert.Proof.RefValue
open scoped BigOperators

/-! ## The second kernel's elements -/

theorem pay1_apply {F : FTy → Type} [FloatOps F] (i : grid1.Coords) (q : IVec S1024x1 32) (y : S1024x2048.Idx) :
    k1_pay1 (F := F) i q y = FloatOps.sitofp .f32 (BitVec.setWidth 32 (IntOp.cmpi .eq
      (iota .tc S1024x2048 32 [1] iota_S1024x2048_d1_w32 y + BitVec.ofNat 32 (i 0).val * 2048#32)
      (broadcastTo S1024x2048 (shapeCast S1024x1 q shapeCasts_S1024x1_S1024x1) broadcasts_S1024x1_S1024x2048 y))) := rfl

theorem spread_wide {α : Type} (q : S1024x1.Idx → α) (y : S1024x2048.Idx) :
    broadcastTo S1024x2048 q broadcasts_S1024x1_S1024x2048 y = q (ix2 (y 0) 0) :=
  broadcastTo_apply q _ _ _ (fun a => match a with | ⟨0, _⟩ => rfl | ⟨1, _⟩ => rfl)

theorem coords1 : ∀ t : Fin cfg1.N, (grid1.coords t 0).val = t.val := (by decide +kernel : ∀ t : Fin grid1.N, (grid1.coords t 0).val = t.val)

/-- One at the chosen column, zero elsewhere. -/
theorem hot_word (k₀ k : ℕ) (h₀ : k₀ < 32768) (h : k < 32768) :
    (FloatOps.sitofp .f32 (BitVec.setWidth 32 (IntOp.cmpi .eq (BitVec.ofNat 32 k) (BitVec.ofNat 32 k₀))) : Ideal .f32) = (hot k₀ k : EReal) := by
  have e : IntOp.cmpi .eq (BitVec.ofNat 32 k) (BitVec.ofNat 32 k₀) = BitVec.ofBool (decide (k = k₀)) := by
    show BitVec.ofBool (BitVec.ofNat 32 k == BitVec.ofNat 32 k₀) = _
    congr 1
    rw [beq_eq_decide]
    exact decide_eq_decide.2 (word_inj h h₀)
  rw [e]
  show (((BitVec.setWidth 32 (BitVec.ofBool (decide (k = k₀)))).toInt : ℝ) : EReal) = _
  unfold hot
  by_cases c : k = k₀
  · rw [if_pos c, decide_eq_true c, show (BitVec.setWidth 32 (BitVec.ofBool true)).toInt = 1 by decide, Int.cast_one]
  · rw [if_neg c, decide_eq_false c, show (BitVec.setWidth 32 (BitVec.ofBool false)).toInt = 0 by decide, Int.cast_zero]

theorem pay1_at (q : IVec S1024x1 32) (r : Fin 1024) (k : Fin 32768) (k₀ : ℕ) (h₀ : k₀ < 32768) (hq : q (ix2 r 0) = BitVec.ofNat 32 k₀) :
    k1_pay1 (F := Ideal) (grid1.coords (ptOf1 (ix2 r k))) q (inOf1 (ix2 r k)) = (hot k₀ k.val : EReal) := by
  rw [pay1_apply, shapeCast_self, spread_wide, coords1, iota_single_apply]
  have e0 : (inOf1 (ix2 r k) 0 : Fin 1024) = r := rfl
  have e1 : BitVec.ofNat 32 (inOf1 (ix2 r k) 1).val + BitVec.ofNat 32 (ptOf1 (ix2 r k)).val * 2048#32 = BitVec.ofNat 32 k.val := by
    have ev : (inOf1 (ix2 r k) 1).val = k.val % 2048 := rfl
    have ew : (ptOf1 (ix2 r k)).val = k.val / 2048 := rfl
    rw [ev, ew]
    have h2 : (2048#32 : BitVec 32) = BitVec.ofNat 32 2048 := rfl
    rw [h2, ← BitVec.ofNat_mul, ← BitVec.ofNat_add]
    congr 1
    omega
  rw [e1]
  have hq' : q (ix2 (inOf1 (ix2 r k) 0) 0) = BitVec.ofNat 32 k₀ := hq
  rw [hq']
  exact hot_word k₀ k.val h₀ k.isLt

/-! ## The results -/

section
variable (m : (ℓ : Loc nD τ sig) → Buf (Elt Ideal) ℓ) (c : Dev nD)

/-- The reference's logits of the kernel's arguments. -/
def logitsOf : S1024x32768.Idx → Ideal .f32 :=
  refLogits (F := Ideal) (m ((c.tc : Thread nD τ).loc main_arg0)) (m ((c.tc : Thread nD τ).loc main_arg1)) (m ((c.tc : Thread nD τ).loc main_arg2))

/-- The kernel's logits, block by block, are the reference's. -/
theorem logits_eq (t : Fin cfg0.N) (r k : Fin 1024) : logitsAt (W1 m c) t (ix2 r k) = logitsOf m c (ix2 r (colOf t k)) := by
  refine logits_at (W1 m c) _ _ _ (W1_arg0 m c) (W1_arg1 m c) (fun k => ?_) t r k
  rw [W1_bias]
  exact bias_cast _ k

/-- An index as its two coordinates. -/
theorem ix_eta (i : S1024x32768.Idx) : ix2 (i 0 : Fin 1024) (i 1 : Fin 32768) = i := by
  funext a; match a with | ⟨0, _⟩ => rfl | ⟨1, _⟩ => rfl

theorem logits_result : W4 m c (Proc.devRef .tc main_v1_0) = logitsOf m c := by
  rw [W4_logits, arr_logits]
  funext i
  obtain ⟨t, r, k, rfl⟩ : ∃ (t : Fin cfg0.N) (r k : Fin 1024), i = outOf t (ix2 r k) :=
    ⟨ptOf i, inOf i 0, inOf i 1, (outOf_inOf i).symm.trans (congrArg (outOf (ptOf i)) (by
      funext a; match a with | ⟨0, _⟩ => rfl | ⟨1, _⟩ => rfl))⟩
  rw [ptOf_outOf, inOf_outOf, outOf_ix]
  exact logits_eq m c t r k

/-- A row of logits by column, as reals. -/
def rowOf (r : Fin 1024) (k : ℕ) : ℝ := if h : k < 32768 then EReal.toReal (logitsOf m c (ix2 r ⟨k, h⟩)) else 0

variable (hreal : ∀ i, ∃ x : ℝ, logitsOf m c i = (x : EReal))
include hreal

theorem row_at (r : Fin 1024) (k : Fin 32768) : logitsOf m c (ix2 r k) = (rowOf m c r k.val : EReal) := by
  unfold rowOf
  rw [dif_pos k.isLt]
  obtain ⟨x, hx⟩ := hreal (ix2 r k)
  rw [hx]
  rfl

/-- The carried state after all the blocks. -/
theorem inv_end : Inv (rowOf m c) 32768 (stAt (W1 m c) 32) := by
  have h := inv_at (W1 m c) (rowOf m c) (fun t r k => (logits_eq m c t r k).trans (row_at m c hreal r (colOf t k))) 32 (le_refl _)
  exact h

theorem ent_result : W4 m c (Proc.devRef .tc main_v3) = refEnt (F := Ideal) (logitsOf m c) := by
  rw [W4_ent, W3_ent, arr_ent]
  funext i
  obtain ⟨r, rfl⟩ : ∃ r : Fin 1024, i = ix1 r := ⟨i 0, by funext a; match a with | ⟨0, _⟩ => rfl⟩
  refine (ent_cast _ r).trans ?_
  rw [refEnt_at (logitsOf m c) (rowOf m c r) r (row_at m c hreal r)]
  exact Ent.entropy (by decide) (inv_end m c hreal r).1

theorem sample_result : W4 m c (Proc.devRef .tc main_v2) = refSample (F := Ideal) (logitsOf m c) := by
  rw [W4_sample, arr_sample, W2_cols, arr_col]
  funext i
  obtain ⟨r, k, rfl⟩ : ∃ (r : Fin 1024) (k : Fin 32768), i = ix2 r k := ⟨i 0, i 1, (ix_eta i).symm⟩
  rcases (inv_end m c hreal r).2 with ⟨h, -⟩ | ⟨k₀, ht, -, hb⟩
  · exact absurd h (by decide)
  · rw [refSample_at (logitsOf m c) (rowOf m c r) r (perturbed (rowOf m c) r) (row_at m c hreal r) (fun k => by
      unfold perturbed gumbel; rw [dif_pos k.isLt]) k₀ ht k]
    exact pay1_at _ r k k₀ ht.1 hb

end

/-- Logits of finite arguments are reals. -/
theorem logits_real (x : S1024x2048.Idx → Ideal .f32) (w : S2048x32768.Idx → Ideal .f32) (b : S32768.Idx → Ideal .f32)
    (hx : ∀ i, ∃ r : ℝ, x i = (r : EReal)) (hw : ∀ i, ∃ r : ℝ, w i = (r : EReal)) (hb : ∀ i, ∃ r : ℝ, b i = (r : EReal))
    (i : S1024x32768.Idx) : ∃ r : ℝ, refLogits (F := Ideal) x w b i = (r : EReal) := by
  choose fx hfx using hx
  choose fw hfw using hw
  choose fb hfb using hb
  obtain ⟨r, k, rfl⟩ : ∃ (r : Fin 1024) (k : Fin 32768), i = ix2 r k := ⟨i 0, i 1, (ix_eta i).symm⟩
  refine ⟨(∑ c : Fin 2048, fx (ix2 r c) * fw (ix2 c k)) + fb (ix1 k), ?_⟩
  rw [refLogits_at, EReal.coe_add, coe_sum, hfb]
  refine congrArg (fun p : EReal => p + (fb (ix1 k) : EReal)) (Finset.sum_congr rfl fun c _ => ?_)
  rw [hfx, hfw, EReal.coe_mul]

end Cert.KernelIdeal.Own

end
-- ==== Proof.Algebraic.lean ====
module

public import proofs.«01_k».proof.Proof.Value
public import proofs.«01_k».proof.Proof.Gen.Pre_finite
public import proofs.«01_k».proof.Defs

/-! The kernel and the reference end with equal results at the ideal instance, where the arguments are finite. -/

@[expose] public section

set_option maxRecDepth 16384

noncomputable section

namespace Cert.Proof

open Idealize.ShloMosaic Idealize.SL.Sem
open Cert.KernelIdeal.Own (logitsOf W4 logits_result ent_result sample_result W4_arg0 W4_arg1 W4_arg2 kernel_run logits_real)
open Cert.Proof.RefRun (refLogits refSample refEnt)

/-- Under the precondition the logits are reals. -/
theorem logitsOf_real (m : (ℓ : Loc Cert.KernelIdeal.nD Cert.KernelIdeal.τ Cert.KernelIdeal.sig) → Buf (Elt Ideal) ℓ)
    (hp : Cert.Pre_KernelIdeal_finite (hPre_finite := Cert.Pre_finite.Gen.facts) m) (c : Dev Cert.KernelIdeal.nD) (i) :
    ∃ x : ℝ, logitsOf m c i = (x : EReal) := by
  obtain ⟨h0, h1, h2⟩ := Cert.Proof.Finite.reals _ _ _ (hp c)
  exact logits_real _ _ _ h0 h1 h2 i

/-- Both programs run and end with equal samples, logits and entropies. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hp hm
  have hr := logitsOf_real m hp
  refine ⟨fun c => refSample (F := Ideal) (logitsOf m c), fun c => logitsOf m c, fun c => refEnt (F := Ideal) (logitsOf m c), ?_, ?_⟩
  · refine (θ_run Cert.KernelIdeal.defs _ _).mono ?_ (kernel_run m g)
    intro r h c
    exact ⟨(h.1 c Cert.KernelIdeal.main_v2 rfl).trans (sample_result m c (hr c)),
      (h.1 c Cert.KernelIdeal.main_v1_0 rfl).trans (logits_result m c),
      (h.1 c Cert.KernelIdeal.main_v3 rfl).trans (ent_result m c (hr c)),
      (h.1 c Cert.KernelIdeal.main_arg0 rfl).trans (W4_arg0 m c), (h.1 c Cert.KernelIdeal.main_arg1 rfl).trans (W4_arg1 m c),
      (h.1 c Cert.KernelIdeal.main_arg2 rfl).trans (W4_arg2 m c)⟩
  · refine (θ_run Cert.ReferenceIdeal.defs _ _).mono ?_ (Cert.Proof.RefRun.run (F := Ideal) m' g')
    intro r h c
    obtain ⟨⟨hl, hs, he⟩, h0, h1, h2⟩ := h.1 c
    obtain ⟨e0, e1, e2⟩ := hm c
    have hl' : r.2.mem ((c.tc : Thread Cert.ReferenceIdeal.nD Cert.ReferenceIdeal.τ).loc Cert.ReferenceIdeal.main_v3) = logitsOf m c := by
      refine hl.trans ?_
      unfold Cert.KernelIdeal.Own.logitsOf
      rw [e0, e1, e2]
    refine ⟨hs.trans (congrArg (refSample (F := Ideal)) hl'), hl', he.trans (congrArg (refEnt (F := Ideal)) hl'), h0, h1, h2⟩

end Cert.Proof

end
-- ==== Proof.lean ====
module

public import proofs.«01_k».proof.Proof.Frames
public import proofs.«01_k».proof.Proof.Algebraic

/-! The certificate's claims, put together. -/

@[expose] public section

noncomputable section

namespace Cert.Proof

open Idealize.ShloMosaic Idealize.SL.Sem

/-- Everything the certificate claims. -/
theorem claim : Cert.Claim := ⟨Cert.Kernel.Gen.facts, Cert.KernelIdeal.Gen.facts, Cert.ReferenceIdeal.Gen.facts, Cert.Pre_finite.Gen.facts,
  frame_kernel, frame_ideal, fun m g _ => frame_ideal m g trivial, frame_reference, fun m g _ => frame_reference m g trivial, trivial,
  algebraic⟩

end Cert.Proof
end
